-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inf" .f32 0xCE6E6B28#32 ⊥
  ∧ IdealRules.named_const.Statement Cert.KernelIdeal.κ "s" .f32 0x404A62C2#32 ((Real.sqrt 10 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x512 : Shape := ⟨2, ![256, 512]⟩
abbrev S512x256 : Shape := ⟨2, ![512, 256]⟩
abbrev S_ : Shape := ⟨0, ![]⟩
abbrev S7x256 : Shape := ⟨2, ![7, 256]⟩
abbrev S1x256 : Shape := ⟨2, ![1, 256]⟩
abbrev S520x256 : Shape := ⟨2, ![520, 256]⟩
abbrev S521x256 : Shape := ⟨2, ![521, 256]⟩
abbrev S519x256 : Shape := ⟨2, ![519, 256]⟩
abbrev S1552x256 : Shape := ⟨2, ![1552, 256]⟩
abbrev S16x128 : Shape := ⟨2, ![16, 128]⟩
abbrev S2x8x128 : Shape := ⟨3, ![2, 8, 128]⟩
abbrev S2x1x1 : Shape := ⟨3, ![2, 1, 1]⟩
abbrev S2 : Shape := ⟨1, ![2]⟩
abbrev S520x128 : Shape := ⟨2, ![520, 128]⟩
abbrev S1552x128 : Shape := ⟨2, ![1552, 128]⟩
abbrev S512x128 : Shape := ⟨2, ![512, 128]⟩
abbrev S8x128 : Shape := ⟨2, ![8, 128]⟩
abbrev S128 : Shape := ⟨1, ![128]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S15x128 : Shape := ⟨2, ![15, 128]⟩
abbrev S136x128 : Shape := ⟨2, ![136, 128]⟩
abbrev S135x128 : Shape := ⟨2, ![135, 128]⟩
abbrev S128x128 : Shape := ⟨2, ![128, 128]⟩
abbrev S6x128 : Shape := ⟨2, ![6, 128]⟩

abbrev nBuf : Space → Nat
  | .hbm => 37
  | .vmem => 12
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S512x256, .f32⟩
  | .hbm, ⟨6, _⟩ => ⟨S_, .f32⟩
  | .hbm, ⟨7, _⟩ => ⟨S7x256, .f32⟩
  | .hbm, ⟨8, _⟩ => ⟨S1x256, .f32⟩
  | .hbm, ⟨9, _⟩ => ⟨S520x256, .f32⟩
  | .hbm, ⟨10, _⟩ => ⟨S_, .f32⟩
  | .hbm, ⟨11, _⟩ => ⟨S521x256, .f32⟩
  | .hbm, ⟨12, _⟩ => ⟨S_, .f32⟩
  | .hbm, ⟨13, _⟩ => ⟨S519x256, .f32⟩
  | .hbm, ⟨14, _⟩ => ⟨S1552x256, .f32⟩
  | .hbm, ⟨15, _⟩ => ⟨S16x128, .f32⟩
  | .hbm, ⟨16, _⟩ => ⟨S2x8x128, .f32⟩
  | .hbm, ⟨17, _⟩ => ⟨S2x1x1, .f32⟩
  | .hbm, ⟨18, _⟩ => ⟨S2, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x1x1, .f32⟩
  | .hbm, ⟨25, _⟩ => ⟨S2, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S520x128, .f32⟩
  | .local _ .vmem, ⟨1, _⟩ => ⟨S520x128, .f32⟩
  | .local _ .vmem, ⟨2, _⟩ => ⟨S1552x128, .f32⟩
  | .local _ .vmem, ⟨3, _⟩ => ⟨S1552x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S8x128, .f32⟩
  | .local _ .vmem, ⟨9, _⟩ => ⟨S8x128, .f32⟩
  | .local _ .vmem, ⟨10, _⟩ => ⟨S520x128, .f32⟩
  | .local _ .vmem, ⟨11, _⟩ => ⟨S520x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_cst : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst_0 : Ref sig .tc := ⟨.hbm, 10, rfl⟩
abbrev main_call0_v7 : Ref sig .tc := ⟨.hbm, 11, rfl⟩
abbrev main_call0_cst_1 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_cst_2 : Ref sig .tc := ⟨.hbm, 19, rfl⟩
abbrev main_call0_v14 : Ref sig .tc := ⟨.hbm, 20, rfl⟩
abbrev main_call0_v15 : Ref sig .tc := ⟨.hbm, 21, rfl⟩
abbrev main_call0_cst_3 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_cst_4 : Ref sig .tc := ⟨.hbm, 26, rfl⟩
abbrev main_call0_v19 : Ref sig .tc := ⟨.hbm, 27, rfl⟩
abbrev main_call0_cst_5 : Ref sig .tc := ⟨.hbm, 28, rfl⟩
abbrev main_call0_v20 : Ref sig .tc := ⟨.hbm, 29, rfl⟩
abbrev main_call0_cst_6 : Ref sig .tc := ⟨.hbm, 30, rfl⟩
abbrev main_call0_v21 : Ref sig .tc := ⟨.hbm, 31, rfl⟩
abbrev main_call0_cst_7 : Ref sig .tc := ⟨.hbm, 32, rfl⟩
abbrev main_call0_v22 : Ref sig .tc := ⟨.hbm, 33, rfl⟩
abbrev main_call0_cst_8 : Ref sig .tc := ⟨.hbm, 34, rfl⟩
abbrev main_call0_v23 : Ref sig .tc := ⟨.hbm, 35, rfl⟩
abbrev main_v0 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c128_i32 : BitVec 32 := 128#32
  let v51 : BitVec 32 := Scalar.addi c0_i32 c128_i32
  let c1_i32_22 : BitVec 32 := 1#32
  ⟨c0_i32, v51, c1_i32_22⟩
def k0_cond1 (k0_t1 : Fin k0_t1_loop.trips) : BitVec 1 :=
  let c2_i32 : BitVec 32 := 2#32
  let c8_i32 : BitVec 32 := 8#32
  let c0_i32 : BitVec 32 := 0#32
  let c1_i32_22 : BitVec 32 := 1#32
  let arg8 : BitVec 32 := Scf.iv c0_i32 c1_i32_22 k0_t1
  let v63 : BitVec 32 := Scalar.muli c8_i32 arg8
  let v64 : BitVec 32 := Scalar.addi c2_i32 v63
  let c6_i32 : BitVec 32 := 6#32
  let v66 : BitVec 32 := Scalar.addi v64 c6_i32
  let c512_i32 : BitVec 32 := 512#32
  let v67 : BitVec 1 := Scalar.cmpi .sge v66 c512_i32
  let c1032_i32 : BitVec 32 := 1032#32
  let v68 : BitVec 1 := Scalar.cmpi .sle v64 c1032_i32
  let v69 : BitVec 1 := Scalar.andi v67 v68
  let v70 : BitVec 32 := Scalar.extui v69
  let c0_i32_31 : BitVec 32 := 0#32
  let v71 : BitVec 1 := Scalar.cmpi .ne v70 c0_i32_31
  v71

def k0_off1 (k0_t1 : Fin k0_t1_loop.trips) (c0_i32_47 : BitVec 32) : Fin 2 → Nat :=
  let c1033_i32 : BitVec 32 := 1033#32
  let c2_i32 : BitVec 32 := 2#32
  let c8_i32 : BitVec 32 := 8#32
  let c0_i32 : BitVec 32 := 0#32
  let c1_i32_22 : BitVec 32 := 1#32
  let arg8 : BitVec 32 := Scf.iv c0_i32 c1_i32_22 k0_t1
  let v63 : BitVec 32 := Scalar.muli c8_i32 arg8
  let v64 : BitVec 32 := Scalar.addi c2_i32 v63
  let v65 : BitVec 32 := Scalar.subi c1033_i32 v64
  let c504_i32 : BitVec 32 := 504#32
  let v102 : BitVec 32 := Scalar.addi v65 c504_i32
  let v115 : BitVec 32 := Scalar.subi v102 c0_i32_47
  let v116 : Index := Scalar.indexCast v115
  let c0_48 : Index := 0#32
  ![v116.toNat, 0]
def k0_cond2 (k0_t1 : Fin k0_t1_loop.trips) : BitVec 1 :=
  let c2_i32 : BitVec 32 := 2#32
  let c8_i32 : BitVec 32 := 8#32
  let c0_i32 : BitVec 32 := 0#32
  let c1_i32_22 : BitVec 32 := 1#32
  let arg8 : BitVec 32 := Scf.iv c0_i32 c1_i32_22 k0_t1
  let v63 : BitVec 32 := Scalar.muli c8_i32 arg8
  let v64 : BitVec 32 := Scalar.addi c2_i32 v63
  let c6_i32_32 : BitVec 32 := 6#32
  let v72 : BitVec 32 := Scalar.addi v64 c6_i32_32
  let c384_i32 : BitVec 32 := 384#32
  let v73 : BitVec 1 := Scalar.cmpi .sge v72 c384_i32
  let c1024_i32 : BitVec 32 := 1024#32
  let v74 : BitVec 1 := Scalar.cmpi .sle v64 c1024_i32
  let v75 : BitVec 1 := Scalar.andi v73 v74
  let v76 : BitVec 32 := Scalar.extui v75
  let c0_i32_33 : BitVec 32 := 0#32
  let v77 : BitVec 1 := Scalar.cmpi .ne v76 c0_i32_33
  v77

def k0_off2 (k0_t1 : Fin k0_t1_loop.trips) (c0_i32_47 : BitVec 32) : Fin 2 → Nat :=
  let c1033_i32 : BitVec 32 := 1033#32
  let c2_i32 : BitVec 32 := 2#32
  let c8_i32 : BitVec 32 := 8#32
  let c0_i32 : BitVec 32 := 0#32
  let c1_i32_22 : BitVec 32 := 1#32
  let arg8 : BitVec 32 := Scf.iv c0_i32 c1_i32_22 k0_t1
  let v63 : BitVec 32 := Scalar.muli c8_i32 arg8
  let v64 : BitVec 32 := Scalar.addi c2_i32 v63
  let v65 : BitVec 32 := Scalar.subi c1033_i32 v64
  let c376_i32 : BitVec 32 := 376#32
  let v102 : BitVec 32 := Scalar.addi v65 c376_i32
  let v115 : BitVec 32 := Scalar.subi v102 c0_i32_47
  let v116 : Index := Scalar.indexCast v115
  let c0_48 : Index := 0#32
  ![v116.toNat, 0]
def k0_cond3 (k0_t1 : Fin k0_t1_loop.trips) : BitVec 1 :=
  let c2_i32 : BitVec 32 := 2#32
  let c8_i32 : BitVec 32 := 8#32
  let c0_i32 : BitVec 32 := 0#32
  let c1_i32_22 : BitVec 32 := 1#32
  let arg8 : BitVec 32 := Scf.iv c0_i32 c1_i32_22 k0_t1
  let v63 : BitVec 32 := Scalar.muli c8_i32 arg8
  let v64 : BitVec 32 := Scalar.addi c2_i32 v63
  let c6_i32_34 : BitVec 32 := 6#32
  let v78 : BitVec 32 := Scalar.addi v64 c6_i32_34
  let c256_i32 : BitVec 32 := 256#32
  let v79 : BitVec 1 := Scalar.cmpi .sge v78 c256_i32
  let c896_i32 : BitVec 32 := 896#32
  let v80 : BitVec 1 := Scalar.cmpi .sle v64 c896_i32
  let v81 : BitVec 1 := Scalar.andi v79 v80
  let v82 : BitVec 32 := Scalar.extui v81
  let c0_i32_35 : BitVec 32 := 0#32
  let v83 : BitVec 1 := Scalar.cmpi .ne v82 c0_i32_35
  v83

def k0_off3 (k0_t1 : Fin k0_t1_loop.trips) (c0_i32_47 : BitVec 32) : Fin 2 → Nat :=
  let c1033_i32 : BitVec 32 := 1033#32
  let c2_i32 : BitVec 32 := 2#32
  let c8_i32 : BitVec 32 := 8#32
  let c0_i32 : BitVec 32 := 0#32
  let c1_i32_22 : BitVec 32 := 1#32
  let arg8 : BitVec 32 := Scf.iv c0_i32 c1_i32_22 k0_t1
  let v63 : BitVec 32 := Scalar.muli c8_i32 arg8
  let v64 : BitVec 32 := Scalar.addi c2_i32 v63
  let v65 : BitVec 32 := Scalar.subi c1033_i32 v64
  let c248_i32 : BitVec 32 := 248#32
  let v102 : BitVec 32 := Scalar.addi v65 c248_i32
  let v115 : BitVec 32 := Scalar.subi v102 c0_i32_47
  let v116 : Index := Scalar.indexCast v115
  let c0_48 : Index := 0#32
  ![v116.toNat, 0]
def k0_cond4 (k0_t1 : Fin k0_t1_loop.trips) : BitVec 1 :=
  let c2_i32 : BitVec 32 := 2#32
  let c8_i32 : BitVec 32 := 8#32
  let c0_i32 : BitVec 32 := 0#32
  let c1_i32_22 : BitVec 32 := 1#32
  let arg8 : BitVec 32 := Scf.iv c0_i32 c1_i32_22 k0_t1
  let v63 : BitVec 32 := Scalar.muli c8_i32 arg8
  let v64 : BitVec 32 := Scalar.addi c2_i32 v63
  let c6_i32_36 : BitVec 32 := 6#32
  let v84 : BitVec 32 := Scalar.addi v64 c6_i32_36
  let c128_i32_37 : BitVec 32 := 128#32
  let v85 : BitVec 1 := Scalar.cmpi .sge v84 c128_i32_37
  let c768_i32 : BitVec 32 := 768#32
  let v86 : BitVec 1 := Scalar.cmpi .sle v64 c768_i32
  let v87 : BitVec 1 := Scalar.andi v85 v86
  let v88 : BitVec 32 := Scalar.extui v87
  let c0_i32_38 : BitVec 32 := 0#32
  let v89 : BitVec 1 := Scalar.cmpi .ne v88 c0_i32_38
  v89

def k0_off4 (k0_t1 : Fin k0_t1_loop.trips) (c0_i32_47 : BitVec 32) : Fin 2 → Nat :=
  let c1033_i32 : BitVec 32 := 1033#32
  let c2_i32 : BitVec 32 := 2#32
  let c8_i32 : BitVec 32 := 8#32
  let c0_i32 : BitVec 32 := 0#32
  let c1_i32_22 : BitVec 32 := 1#32
  let arg8 : BitVec 32 := Scf.iv c0_i32 c1_i32_22 k0_t1
  let v63 : BitVec 32 := Scalar.muli c8_i32 arg8
  let v64 : BitVec 32 := Scalar.addi c2_i32 v63
  let v65 : BitVec 32 := Scalar.subi c1033_i32 v64
  let c120_i32 : BitVec 32 := 120#32
  let v102 : BitVec 32 := Scalar.addi v65 c120_i32
  let v115 : BitVec 32 := Scalar.subi v102 c0_i32_47
  let v116 : Index := Scalar.indexCast v115
  let c0_48 : Index := 0#32
  ![v116.toNat, 0]
def k0_cond5 (k0_t1 : Fin k0_t1_loop.trips) : BitVec 1 :=
  let c2_i32 : BitVec 32 := 2#32
  let c8_i32 : BitVec 32 := 8#32
  let c0_i32 : BitVec 32 := 0#32
  let c1_i32_22 : BitVec 32 := 1#32
  let arg8 : BitVec 32 := Scf.iv c0_i32 c1_i32_22 k0_t1
  let v63 : BitVec 32 := Scalar.muli c8_i32 arg8
  let v64 : BitVec 32 := Scalar.addi c2_i32 v63
  let c6_i32_39 : BitVec 32 := 6#32
  let v90 : BitVec 32 := Scalar.addi v64 c6_i32_39
  let c0_i32_40 : BitVec 32 := 0#32
  let v91 : BitVec 1 := Scalar.cmpi .sge v90 c0_i32_40
  let c640_i32 : BitVec 32 := 640#32
  let v92 : BitVec 1 := Scalar.cmpi .sle v64 c640_i32
  let v93 : BitVec 1 := Scalar.andi v91 v92
  let v94 : BitVec 32 := Scalar.extui v93
  let c0_i32_41 : BitVec 32 := 0#32
  let v95 : BitVec 1 := Scalar.cmpi .ne v94 c0_i32_41
  v95

def k0_off5 (k0_t1 : Fin k0_t1_loop.trips) (c0_i32_48 : BitVec 32) : Fin 2 → Nat :=
  let c1033_i32 : BitVec 32 := 1033#32
  let c2_i32 : BitVec 32 := 2#32
  let c8_i32 : BitVec 32 := 8#32
  let c0_i32 : BitVec 32 := 0#32
  let c1_i32_22 : BitVec 32 := 1#32
  let arg8 : BitVec 32 := Scf.iv c0_i32 c1_i32_22 k0_t1
  let v63 : BitVec 32 := Scalar.muli c8_i32 arg8
  let v64 : BitVec 32 := Scalar.addi c2_i32 v63
  let v65 : BitVec 32 := Scalar.subi c1033_i32 v64
  let c_m8_i32 : BitVec 32 := 4294967288#32
  let v105 : BitVec 32 := Scalar.addi v65 c_m8_i32
  let v118 : BitVec 32 := Scalar.subi v105 c0_i32_48
  let v119 : Index := Scalar.indexCast v118
  let c0_49 : Index := 0#32
  ![v119.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S520x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1552x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inf" => some ⊥
  | "s" => some ((Real.sqrt 10 : ℝ) : EReal)
  | _ => none
-- ==== ReferenceIdeal.lean ====
abbrev S256x512 : Shape := ⟨2, ![256, 512]⟩
abbrev S_ : Shape := ⟨0, ![]⟩
abbrev S256x512x1 : Shape := ⟨3, ![256, 512, 1]⟩
abbrev S256x1x512 : Shape := ⟨3, ![256, 1, 512]⟩
abbrev S256x512x512 : Shape := ⟨3, ![256, 512, 512]⟩
abbrev S513 : Shape := ⟨1, ![513]⟩
abbrev S256x513 : Shape := ⟨2, ![256, 513]⟩
abbrev S1 : Shape := ⟨1, ![1]⟩
abbrev S256 : Shape := ⟨1, ![256]⟩
abbrev S1x256x513 : Shape := ⟨3, ![1, 256, 513]⟩
abbrev S2x256x513 : Shape := ⟨3, ![2, 256, 513]⟩
abbrev S1023 : Shape := ⟨1, ![1023]⟩
abbrev S3x256x513 : Shape := ⟨3, ![3, 256, 513]⟩
abbrev S513x1 : Shape := ⟨2, ![513, 1]⟩
abbrev S513x2 : Shape := ⟨2, ![513, 2]⟩
abbrev S1x256x1 : Shape := ⟨3, ![1, 256, 1]⟩
abbrev S256x1 : Shape := ⟨2, ![256, 1]⟩

abbrev nBuf : Space → Nat
  | .hbm => 195
  | .vmem => 0
  | .smem => 0
  | _ => 0

abbrev hbmTy0_0 (i : Nat) : BufTy := match i % 128 with
  | 0 => ⟨S256x512, .f32⟩
  | 1 => ⟨S256x512, .f32⟩
  | 2 => ⟨S_, .f32⟩
  | 3 => ⟨S_, .f32⟩
  | 4 => ⟨S_, .f32⟩
  | 5 => ⟨S256x512x1, .f32⟩
  | 6 => ⟨S256x1x512, .f32⟩
  | 7 => ⟨S256x512x512, .f32⟩
  | 8 => ⟨S256x512x512, .f32⟩
  | 9 => ⟨S256x512x512, .f32⟩
  | 10 => ⟨S256x512x512, .f32⟩
  | 11 => ⟨S513, .i32⟩
  | 12 => ⟨S_, .f32⟩
  | 13 => ⟨S256x513, .f32⟩
  | 14 => ⟨S_, .i32⟩
  | 15 => ⟨S1, .i32⟩
  | 16 => ⟨S_, .f32⟩
  | 17 => ⟨S256, .f32⟩
  | 18 => ⟨S256x513, .f32⟩
  | 19 => ⟨S_, .f32⟩
  | 20 => ⟨S256x513, .f32⟩
  | 21 => ⟨S1x256x513, .f32⟩
  | 22 => ⟨S1x256x513, .f32⟩
  | 23 => ⟨S2x256x513, .f32⟩
  | 24 => ⟨S1023, .i32⟩
  | 25 => ⟨S_, .i32⟩
  | 26 => ⟨S1023, .i32⟩
  | 27 => ⟨S1023, .i32⟩
  | 28 => ⟨S_, .i32⟩
  | 29 => ⟨S1023, .i32⟩
  | 30 => ⟨S513, .i32⟩
  | 31 => ⟨S_, .f32⟩
  | 32 => ⟨S256x512x512, .f32⟩
  | 33 => ⟨S_, .i32⟩
  | 34 => ⟨S2x256x513, .f32⟩
  | 35 => ⟨S_, .i32⟩
  | 36 => ⟨S_, .i1⟩
  | 37 => ⟨S1, .i32⟩
  | 38 => ⟨S_, .i32⟩
  | 39 => ⟨S1x256x513, .f32⟩
  | 40 => ⟨S256x513, .f32⟩
  | 41 => ⟨S1x256x513, .f32⟩
  | 42 => ⟨S256x513, .f32⟩
  | 43 => ⟨S513, .i32⟩
  | 44 => ⟨S513, .i32⟩
  | 45 => ⟨S_, .i32⟩
  | 46 => ⟨S513, .i32⟩
  | 47 => ⟨S513, .i1⟩
  | 48 => ⟨S_, .i32⟩
  | 49 => ⟨S513, .i32⟩
  | 50 => ⟨S513, .i1⟩
  | 51 => ⟨S513, .i1⟩
  | 52 => ⟨S_, .i32⟩
  | 53 => ⟨S513, .i32⟩
  | 54 => ⟨S513, .i1⟩
  | 55 => ⟨S513, .i1⟩
  | 56 => ⟨S256x512, .f32⟩
  | 57 => ⟨S_, .f32⟩
  | 58 => ⟨S_, .f32⟩
  | 59 => ⟨S256x513, .f32⟩
  | 60 => ⟨S256x512, .f32⟩
  | 61 => ⟨S_, .f32⟩
  | 62 => ⟨S_, .f32⟩
  | 63 => ⟨S256x513, .f32⟩
  | 64 => ⟨S1x256x513, .f32⟩
  | 65 => ⟨S1x256x513, .f32⟩
  | 66 => ⟨S1x256x513, .f32⟩
  | 67 => ⟨S3x256x513, .f32⟩
  | 68 => ⟨S3x256x513, .f32⟩
  | 69 => ⟨S3x256x513, .f32⟩
  | 70 => ⟨S3x256x513, .f32⟩
  | 71 => ⟨S_, .f32⟩
  | 72 => ⟨S256x513, .f32⟩
  | 73 => ⟨S_, .f32⟩
  | 74 => ⟨S256x513, .f32⟩
  | 75 => ⟨S256x513, .i1⟩
  | 76 => ⟨S_, .f32⟩
  | 77 => ⟨S256x513, .f32⟩
  | 78 => ⟨S256x513, .i1⟩
  | 79 => ⟨S256x513, .i1⟩
  | 80 => ⟨S_, .f32⟩
  | 81 => ⟨S_, .f32⟩
  | 82 => ⟨S256x513, .f32⟩
  | 83 => ⟨S256x513, .f32⟩
  | 84 => ⟨S_, .f32⟩
  | 85 => ⟨S1x256x513, .f32⟩
  | 86 => ⟨S3x256x513, .f32⟩
  | 87 => ⟨S3x256x513, .f32⟩
  | 88 => ⟨S3x256x513, .f32⟩
  | 89 => ⟨S_, .f32⟩
  | 90 => ⟨S256x513, .f32⟩
  | 91 => ⟨S256x513, .f32⟩
  | 92 => ⟨S256x513, .f32⟩
  | 93 => ⟨S256x513, .f32⟩
  | 94 => ⟨S256x513, .f32⟩
  | 95 => ⟨S_, .i32⟩
  | 96 => ⟨S513, .i32⟩
  | 97 => ⟨S513, .i32⟩
  | 98 => ⟨S_, .i32⟩
  | 99 => ⟨S_, .i32⟩
  | 100 => ⟨S_, .i32⟩
  | 101 => ⟨S513, .i32⟩
  | 102 => ⟨S513, .i32⟩
  | 103 => ⟨S_, .i32⟩
  | 104 => ⟨S513, .i32⟩
  | 105 => ⟨S513, .i32⟩
  | 106 => ⟨S_, .i32⟩
  | 107 => ⟨S513, .i32⟩
  | 108 => ⟨S513, .i32⟩
  | 109 => ⟨S_, .i32⟩
  | 110 => ⟨S_, .i32⟩
  | 111 => ⟨S_, .i32⟩
  | 112 => ⟨S513, .i32⟩
  | 113 => ⟨S513, .i32⟩
  | 114 => ⟨S_, .i32⟩
  | 115 => ⟨S513, .i32⟩
  | 116 => ⟨S513, .i32⟩
  | 117 => ⟨S_, .i32⟩
  | 118 => ⟨S513, .i32⟩
  | 119 => ⟨S513, .i1⟩
  | 120 => ⟨S_, .i32⟩
  | 121 => ⟨S513, .i32⟩
  | 122 => ⟨S513, .i32⟩
  | 123 => ⟨S513, .i32⟩
  | 124 => ⟨S_, .i32⟩
  | 125 => ⟨S513, .i32⟩
  | 126 => ⟨S513, .i1⟩
  | 127 => ⟨S_, .i32⟩
  | _ => ⟨S256x512, .f32⟩

abbrev hbmTy0_1 (i : Nat) : BufTy := match i % 128 with
  | 0 => ⟨S513, .i32⟩
  | 1 => ⟨S513, .i32⟩
  | 2 => ⟨S513, .i32⟩
  | 3 => ⟨S513x1, .i32⟩
  | 4 => ⟨S513x1, .i32⟩
  | 5 => ⟨S513x2, .i32⟩
  | 6 => ⟨S256x513, .f32⟩
  | 7 => ⟨S256x513, .f32⟩
  | 8 => ⟨S_, .f32⟩
  | 9 => ⟨S_, .f32⟩
  | 10 => ⟨S256x513, .i1⟩
  | 11 => ⟨S256x513, .f32⟩
  | 12 => ⟨S256x513, .f32⟩
  | 13 => ⟨S1x256x513, .f32⟩
  | 14 => ⟨S1x256x513, .f32⟩
  | 15 => ⟨S2x256x513, .f32⟩
  | 16 => ⟨S_, .i32⟩
  | 17 => ⟨S_, .i32⟩
  | 18 => ⟨S1x256x1, .f32⟩
  | 19 => ⟨S256, .f32⟩
  | 20 => ⟨S_, .f32⟩
  | 21 => ⟨S_, .f32⟩
  | 22 => ⟨S_, .f32⟩
  | 23 => ⟨S_, .f32⟩
  | 24 => ⟨S_, .f32⟩
  | 25 => ⟨S256, .f32⟩
  | 26 => ⟨S256x1, .f32⟩
  | 27 => ⟨S_, .f32⟩
  | 28 => ⟨S256x1, .f32⟩
  | 29 => ⟨S256x1, .f32⟩
  | 30 => ⟨S256x512, .f32⟩
  | 31 => ⟨S256x512, .f32⟩
  | 32 => ⟨S_, .f32⟩
  | 33 => ⟨S256, .f32⟩
  | 34 => ⟨S256x1, .f32⟩
  | 35 => ⟨S_, .f32⟩
  | 36 => ⟨S256x1, .f32⟩
  | 37 => ⟨S256x1, .f32⟩
  | 38 => ⟨S256x512, .f32⟩
  | 39 => ⟨S256x512, .f32⟩
  | 40 => ⟨S256x512, .f32⟩
  | 41 => ⟨S_, .f32⟩
  | 42 => ⟨S256, .f32⟩
  | 43 => ⟨S256x512, .f32⟩
  | 44 => ⟨S_, .f32⟩
  | 45 => ⟨S256, .f32⟩
  | 46 => ⟨S256, .f32⟩
  | 47 => ⟨S256x512, .f32⟩
  | 48 => ⟨S_, .f32⟩
  | 49 => ⟨S256, .f32⟩
  | 50 => ⟨S256, .f32⟩
  | 51 => ⟨S256, .f32⟩
  | 52 => ⟨S_, .f32⟩
  | 53 => ⟨S256, .f32⟩
  | 54 => ⟨S256, .f32⟩
  | 55 => ⟨S256, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | _ => ⟨S256x512, .f32⟩

abbrev hbmTy (i : Nat) : BufTy := match i / 128 with
  | 0 => hbmTy0_0 i
  | 1 => hbmTy0_1 i
  | _ => ⟨S256x512, .f32⟩

abbrev bufTy : (tb : Table) → Fin (tcTables nBuf tb) → BufTy
  | .hbm, ⟨i, _⟩ => hbmTy i
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev main_v19_4 : Ref sig .tc := ⟨.hbm, 33, rfl⟩
abbrev main_v19_5 : Ref sig .tc := ⟨.hbm, 34, rfl⟩
abbrev main_while0c_c_24 : Ref sig .tc := ⟨.hbm, 35, rfl⟩
abbrev main_while0c_v50 : Ref sig .tc := ⟨.hbm, 36, rfl⟩
abbrev main_while0b_call0_v0 : Ref sig .tc := ⟨.hbm, 37, rfl⟩
abbrev main_while0b_v50 : Ref sig .tc := ⟨.hbm, 38, rfl⟩
abbrev main_while0b_v51 : Ref sig .tc := ⟨.hbm, 39, rfl⟩
abbrev main_while0b_v52 : Ref sig .tc := ⟨.hbm, 40, rfl⟩
abbrev main_while0b_v53 : Ref sig .tc := ⟨.hbm, 41, rfl⟩
abbrev main_while0b_v54 : Ref sig .tc := ⟨.hbm, 42, rfl⟩
abbrev main_while0b_v55 : Ref sig .tc := ⟨.hbm, 43, rfl⟩
abbrev main_while0b_v56 : Ref sig .tc := ⟨.hbm, 44, rfl⟩
abbrev main_while0b_c_24 : Ref sig .tc := ⟨.hbm, 45, rfl⟩
abbrev main_while0b_v57 : Ref sig .tc := ⟨.hbm, 46, rfl⟩
abbrev main_while0b_v58 : Ref sig .tc := ⟨.hbm, 47, rfl⟩
abbrev main_while0b_c_25 : Ref sig .tc := ⟨.hbm, 48, rfl⟩
abbrev main_while0b_v59 : Ref sig .tc := ⟨.hbm, 49, rfl⟩
abbrev main_while0b_v60 : Ref sig .tc := ⟨.hbm, 50, rfl⟩
abbrev main_while0b_v61 : Ref sig .tc := ⟨.hbm, 51, rfl⟩
abbrev main_while0b_c_26 : Ref sig .tc := ⟨.hbm, 52, rfl⟩
abbrev main_while0b_v62 : Ref sig .tc := ⟨.hbm, 53, rfl⟩
abbrev main_while0b_v63 : Ref sig .tc := ⟨.hbm, 54, rfl⟩
abbrev main_while0b_v64 : Ref sig .tc := ⟨.hbm, 55, rfl⟩
abbrev main_while0b_v65 : Ref sig .tc := ⟨.hbm, 56, rfl⟩
abbrev main_while0b_cst_27 : Ref sig .tc := ⟨.hbm, 57, rfl⟩
abbrev main_while0b_call1_v0 : Ref sig .tc := ⟨.hbm, 58, rfl⟩
abbrev main_while0b_v66 : Ref sig .tc := ⟨.hbm, 59, rfl⟩
abbrev main_while0b_v67 : Ref sig .tc := ⟨.hbm, 60, rfl⟩
abbrev main_while0b_cst_28 : Ref sig .tc := ⟨.hbm, 61, rfl⟩
abbrev main_while0b_call2_v0 : Ref sig .tc := ⟨.hbm, 62, rfl⟩
abbrev main_while0b_v68 : Ref sig .tc := ⟨.hbm, 63, rfl⟩
abbrev main_while0b_v69 : Ref sig .tc := ⟨.hbm, 64, rfl⟩
abbrev main_while0b_v70 : Ref sig .tc := ⟨.hbm, 65, rfl⟩
abbrev main_while0b_v71 : Ref sig .tc := ⟨.hbm, 66, rfl⟩
abbrev main_while0b_v72 : Ref sig .tc := ⟨.hbm, 67, rfl⟩
abbrev main_while0b_v73 : Ref sig .tc := ⟨.hbm, 68, rfl⟩
abbrev main_while0b_v74 : Ref sig .tc := ⟨.hbm, 69, rfl⟩
abbrev main_while0b_v75 : Ref sig .tc := ⟨.hbm, 70, rfl⟩
abbrev main_while0b_cst_29 : Ref sig .tc := ⟨.hbm, 71, rfl⟩
abbrev main_while0b_v76 : Ref sig .tc := ⟨.hbm, 72, rfl⟩
abbrev main_while0b_cst_30 : Ref sig .tc := ⟨.hbm, 73, rfl⟩
abbrev main_while0b_v77 : Ref sig .tc := ⟨.hbm, 74, rfl⟩
abbrev main_while0b_v78 : Ref sig .tc := ⟨.hbm, 75, rfl⟩
abbrev main_while0b_cst_31 : Ref sig .tc := ⟨.hbm, 76, rfl⟩
abbrev main_while0b_v79 : Ref sig .tc := ⟨.hbm, 77, rfl⟩
abbrev main_while0b_v80 : Ref sig .tc := ⟨.hbm, 78, rfl⟩
abbrev main_while0b_v81 : Ref sig .tc := ⟨.hbm, 79, rfl⟩
abbrev main_while0b_cst_32 : Ref sig .tc := ⟨.hbm, 80, rfl⟩
abbrev main_while0b_call3_v0 : Ref sig .tc := ⟨.hbm, 81, rfl⟩
abbrev main_while0b_call3_v1 : Ref sig .tc := ⟨.hbm, 82, rfl⟩
abbrev main_while0b_v82 : Ref sig .tc := ⟨.hbm, 83, rfl⟩
abbrev main_while0b_v83 : Ref sig .tc := ⟨.hbm, 84, rfl⟩
abbrev main_while0b_v84 : Ref sig .tc := ⟨.hbm, 85, rfl⟩
abbrev main_while0b_v85 : Ref sig .tc := ⟨.hbm, 86, rfl⟩
abbrev main_while0b_v86 : Ref sig .tc := ⟨.hbm, 87, rfl⟩
abbrev main_while0b_v87 : Ref sig .tc := ⟨.hbm, 88, rfl⟩
abbrev main_while0b_cst_33 : Ref sig .tc := ⟨.hbm, 89, rfl⟩
abbrev main_while0b_v88 : Ref sig .tc := ⟨.hbm, 90, rfl⟩
abbrev main_while0b_v89 : Ref sig .tc := ⟨.hbm, 91, rfl⟩
abbrev main_while0b_v90 : Ref sig .tc := ⟨.hbm, 92, rfl⟩
abbrev main_while0b_v91 : Ref sig .tc := ⟨.hbm, 93, rfl⟩
abbrev main_while0b_v92 : Ref sig .tc := ⟨.hbm, 94, rfl⟩
abbrev main_while0b_c_34 : Ref sig .tc := ⟨.hbm, 95, rfl⟩
abbrev main_while0b_v93 : Ref sig .tc := ⟨.hbm, 96, rfl⟩
abbrev main_while0b_v94 : Ref sig .tc := ⟨.hbm, 97, rfl⟩
abbrev main_while0b_c_35 : Ref sig .tc := ⟨.hbm, 98, rfl⟩
abbrev main_while0b_c_36 : Ref sig .tc := ⟨.hbm, 99, rfl⟩
abbrev main_while0b_call4_v0 : Ref sig .tc := ⟨.hbm, 100, rfl⟩
abbrev main_while0b_call4_v1 : Ref sig .tc := ⟨.hbm, 101, rfl⟩
abbrev main_while0b_call4_v2 : Ref sig .tc := ⟨.hbm, 102, rfl⟩
abbrev main_while0b_call4_v3 : Ref sig .tc := ⟨.hbm, 103, rfl⟩
abbrev main_while0b_call4_v4 : Ref sig .tc := ⟨.hbm, 104, rfl⟩
abbrev main_while0b_v95 : Ref sig .tc := ⟨.hbm, 105, rfl⟩
abbrev main_while0b_c_37 : Ref sig .tc := ⟨.hbm, 106, rfl⟩
abbrev main_while0b_v96 : Ref sig .tc := ⟨.hbm, 107, rfl⟩
abbrev main_while0b_v97 : Ref sig .tc := ⟨.hbm, 108, rfl⟩
abbrev main_while0b_c_38 : Ref sig .tc := ⟨.hbm, 109, rfl⟩
abbrev main_while0b_c_39 : Ref sig .tc := ⟨.hbm, 110, rfl⟩
abbrev main_while0b_call5_v0 : Ref sig .tc := ⟨.hbm, 111, rfl⟩
abbrev main_while0b_call5_v1 : Ref sig .tc := ⟨.hbm, 112, rfl⟩
abbrev main_while0b_call5_v2 : Ref sig .tc := ⟨.hbm, 113, rfl⟩
abbrev main_while0b_call5_v3 : Ref sig .tc := ⟨.hbm, 114, rfl⟩
abbrev main_while0b_call5_v4 : Ref sig .tc := ⟨.hbm, 115, rfl⟩
abbrev main_while0b_v98 : Ref sig .tc := ⟨.hbm, 116, rfl⟩
abbrev main_while0b_c_40 : Ref sig .tc := ⟨.hbm, 117, rfl⟩
abbrev main_while0b_v99 : Ref sig .tc := ⟨.hbm, 118, rfl⟩
abbrev main_while0b_v100 : Ref sig .tc := ⟨.hbm, 119, rfl⟩
abbrev main_while0b_c_41 : Ref sig .tc := ⟨.hbm, 120, rfl⟩
abbrev main_while0b_v101 : Ref sig .tc := ⟨.hbm, 121, rfl⟩
abbrev main_while0b_v102 : Ref sig .tc := ⟨.hbm, 122, rfl⟩
abbrev main_while0b_v103 : Ref sig .tc := ⟨.hbm, 123, rfl⟩
abbrev main_while0b_c_42 : Ref sig .tc := ⟨.hbm, 124, rfl⟩
abbrev main_while0b_v104 : Ref sig .tc := ⟨.hbm, 125, rfl⟩
abbrev main_while0b_v105 : Ref sig .tc := ⟨.hbm, 126, rfl⟩
abbrev main_while0b_c_43 : Ref sig .tc := ⟨.hbm, 127, rfl⟩
abbrev main_while0b_v106 : Ref sig .tc := ⟨.hbm, 128, rfl⟩
abbrev main_while0b_v107 : Ref sig .tc := ⟨.hbm, 129, rfl⟩
abbrev main_while0b_v108 : Ref sig .tc := ⟨.hbm, 130, rfl⟩
abbrev main_while0b_v109 : Ref sig .tc := ⟨.hbm, 131, rfl⟩
abbrev main_while0b_v110 : Ref sig .tc := ⟨.hbm, 132, rfl⟩
abbrev main_while0b_v111 : Ref sig .tc := ⟨.hbm, 133, rfl⟩
abbrev main_while0b_v112 : Ref sig .tc := ⟨.hbm, 134, rfl⟩
abbrev main_while0b_v113 : Ref sig .tc := ⟨.hbm, 135, rfl⟩
abbrev main_while0b_cst_44 : Ref sig .tc := ⟨.hbm, 136, rfl⟩
abbrev main_while0b_call6_v0 : Ref sig .tc := ⟨.hbm, 137, rfl⟩
abbrev main_while0b_call6_v1 : Ref sig .tc := ⟨.hbm, 138, rfl⟩
abbrev main_while0b_call6_v2 : Ref sig .tc := ⟨.hbm, 139, rfl⟩
abbrev main_while0b_v114 : Ref sig .tc := ⟨.hbm, 140, rfl⟩
abbrev main_while0b_v115 : Ref sig .tc := ⟨.hbm, 141, rfl⟩
abbrev main_while0b_v116 : Ref sig .tc := ⟨.hbm, 142, rfl⟩
abbrev main_while0b_v117 : Ref sig .tc := ⟨.hbm, 143, rfl⟩
abbrev main_while0b_c_45 : Ref sig .tc := ⟨.hbm, 144, rfl⟩
abbrev main_while0b_v118 : Ref sig .tc := ⟨.hbm, 145, rfl⟩
abbrev main_v20 : Ref sig .tc := ⟨.hbm, 146, rfl⟩
abbrev main_v21 : Ref sig .tc := ⟨.hbm, 147, rfl⟩
abbrev main_cst_6 : Ref sig .tc := ⟨.hbm, 148, rfl⟩
abbrev main_v22 : Ref sig .tc := ⟨.hbm, 149, rfl⟩
abbrev main_cst_7 : Ref sig .tc := ⟨.hbm, 150, rfl⟩
abbrev main_v23 : Ref sig .tc := ⟨.hbm, 151, rfl⟩
abbrev main_cst_8 : Ref sig .tc := ⟨.hbm, 152, rfl⟩
abbrev main_v24 : Ref sig .tc := ⟨.hbm, 153, rfl⟩
abbrev main_v25 : Ref sig .tc := ⟨.hbm, 154, rfl⟩
abbrev main_cst_9 : Ref sig .tc := ⟨.hbm, 155, rfl⟩
abbrev main_v26 : Ref sig .tc := ⟨.hbm, 156, rfl⟩
abbrev main_v27 : Ref sig .tc := ⟨.hbm, 157, rfl⟩
abbrev main_v28 : Ref sig .tc := ⟨.hbm, 158, rfl⟩
abbrev main_v29 : Ref sig .tc := ⟨.hbm, 159, rfl⟩
abbrev main_cst_10 : Ref sig .tc := ⟨.hbm, 160, rfl⟩
abbrev main_v30 : Ref sig .tc := ⟨.hbm, 161, rfl⟩
abbrev main_v31 : Ref sig .tc := ⟨.hbm, 162, rfl⟩
abbrev main_cst_11 : Ref sig .tc := ⟨.hbm, 163, rfl⟩
abbrev main_v32 : Ref sig .tc := ⟨.hbm, 164, rfl⟩
abbrev main_v33 : Ref sig .tc := ⟨.hbm, 165, rfl⟩
abbrev main_v34 : Ref sig .tc := ⟨.hbm, 166, rfl⟩
abbrev main_v35 : Ref sig .tc := ⟨.hbm, 167, rfl⟩
abbrev main_v36 : Ref sig .tc := ⟨.hbm, 168, rfl⟩
abbrev main_cst_12 : Ref sig .tc := ⟨.hbm, 169, rfl⟩
abbrev main_v37 : Ref sig .tc := ⟨.hbm, 170, rfl⟩
abbrev main_call7_v0 : Ref sig .tc := ⟨.hbm, 171, rfl⟩
abbrev main_call7_cst : Ref sig .tc := ⟨.hbm, 172, rfl⟩
abbrev main_call7_v1 : Ref sig .tc := ⟨.hbm, 173, rfl⟩
abbrev main_v38 : Ref sig .tc := ⟨.hbm, 174, rfl⟩
abbrev main_call8_v0 : Ref sig .tc := ⟨.hbm, 175, rfl⟩
abbrev main_call8_cst : Ref sig .tc := ⟨.hbm, 176, rfl⟩
abbrev main_call8_v1 : Ref sig .tc := ⟨.hbm, 177, rfl⟩
abbrev main_v39 : Ref sig .tc := ⟨.hbm, 178, rfl⟩
abbrev main_v40 : Ref sig .tc := ⟨.hbm, 179, rfl⟩
abbrev main_cst_13 : Ref sig .tc := ⟨.hbm, 180, rfl⟩
abbrev main_v41 : Ref sig .tc := ⟨.hbm, 181, rfl⟩
abbrev main_v42 : Ref sig .tc := ⟨.hbm, 182, rfl⟩
abbrev main_v43 : Ref sig .tc := ⟨.hbm, 183, rfl⟩
abbrev main_cst_14 : Ref sig .tc := ⟨.hbm, 184, rfl⟩
abbrev main_v44 : Ref sig .tc := ⟨.hbm, 185, rfl⟩
abbrev main_cst_15 : Ref sig .tc := ⟨.hbm, 186, rfl⟩
abbrev main_v45 : Ref sig .tc := ⟨.hbm, 187, rfl⟩
abbrev main_cst_16 : Ref sig .tc := ⟨.hbm, 188, rfl⟩
abbrev main_v46 : Ref sig .tc := ⟨.hbm, 189, rfl⟩
abbrev main_cst_17 : Ref sig .tc := ⟨.hbm, 190, rfl⟩
abbrev main_v47 : Ref sig .tc := ⟨.hbm, 191, rfl⟩
abbrev main_cst_18 : Ref sig .tc := ⟨.hbm, 192, rfl⟩
abbrev main_v48 : Ref sig .tc := ⟨.hbm, 193, rfl⟩
abbrev main_v49 : Ref sig .tc := ⟨.hbm, 194, rfl⟩

abbrev nD : Nat := 1
abbrev τ : Topo := Topo.v7x

variable {F : FTy → Type} [FloatOps F]

abbrev main_while0_count : Scf.Loop 32 := ⟨0#32, 1023#32, 1#32⟩
-- ==== Proof.Put.lean ====
module

public import Idealize.ShloMosaic.Lib.Writes
public import Idealize.ShloMosaic.Lib.Pipeline.FrameBody

/-! A block of values stored over part of an array. -/

@[expose] public section

noncomputable section

namespace Cert

open Idealize.ShloMosaic

variable {Val : EltTy → Type} {s : Shape} {e : EltTy}

open Classical in
/-- The array `a` with the block `w` stored over the rectangle `r`. -/
def put (r : Rect s) (w : r.shape.Idx → Val e) (a : s.Idx → Val e) : s.Idx → Val e := fun y =>
  if h : y ∈ r.set then w (r.exists_idx_of_mem h).choose else a y

/-- Inside the rectangle the array holds the block. -/
theorem put_emb (r : Rect s) (w : r.shape.Idx → Val e) (a : s.Idx → Val e) (x : r.shape.Idx) : put r w a (r.emb x) = w x := by
  have h : r.emb x ∈ r.set := by
    rw [← Rect.map_emb_univ]; exact Finset.mem_map_of_mem _ (Finset.mem_univ x)
  unfold put
  rw [dif_pos h]
  exact congrArg w (r.emb.injective (r.exists_idx_of_mem h).choose_spec)

/-- Outside the rectangle it is unchanged. -/
theorem put_of_not_mem (r : Rect s) (w : r.shape.Idx → Val e) (a : s.Idx → Val e) (y : s.Idx) (h : y ∉ r.set) : put r w a y = a y := by
  unfold put
  rw [dif_neg h]

/-- A block stored over all of the array, from its first place, is the array. -/
theorem put_whole (r : Rect s) (w : r.shape.Idx → Val e) (a b : s.Idx → Val e) (h : ∀ y, y ∈ r.set) (hb : ∀ x, w x = b (r.emb x)) :
    put r w a = b := by
  funext y
  obtain ⟨x, rfl⟩ := r.exists_idx_of_mem (h y)
  exact (put_emb r w a x).trans (hb x)

/-- Storing a block through a view of a buffer stores it over the array the view reads. -/
theorem read_writes_put {sig : RefSig} {κ : Kind} {sp : Space} (v : View sig κ sp s e) (f : v.ty.Contents Val) (r : Rect s)
    (w : r.shape.Idx → Val e) : v.read Val (v.writes Val f [⟨r, w⟩]) = put r w (v.read Val f) := by
  funext y
  by_cases h : y ∈ r.set
  · obtain ⟨x, rfl⟩ := r.exists_idx_of_mem h
    exact (View.read_writes_cons_emb v f r w [] x).trans (put_emb r w _ x).symm
  · rw [put_of_not_mem _ _ _ _ h, View.read_writes_cons_miss _ _ _ _ _ h, View.writes_nil]

end Cert

end
-- ==== Proof.Ideal.Block.lean ====
module

public import proofs.«01_k».proof.Proof.Gen.KernelIdeal.Skeleton
public import proofs.«01_k».proof.Proof.Put
public import Idealize.ShloMosaic.Lib.Exec
public import Idealize.ShloMosaic.Lib.Tactic
public import Idealize.ShloMosaic.Lib.Pipeline.Kit

/-! The kernel's loop runs five blocks of rows per trip, from the bottom rows up to the top ones. For each block: what
it leaves in the two scratch buffers, as a function of what they held, and that running it leaves exactly that. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents of the two scratch buffers. -/
abbrev Scr (F : FTy → Type) : Type := Vec F S520x128 .f32 × Vec F S520x128 .f32

/-- What block 1 stores into the two buffers, from the rows it loads: the lane multiplier `c`, the prediction rows `p`,
    the two buffers' rows `a` and `b`, and the eight target windows `t0` … `t7`. -/
def val1 (c : F .f32) (p a b : Vec F S16x128 .f32) (t0 t1 t2 t3 t4 t5 t6 t7 : Vec F S16x128 .f32) : FVec F S8x128 .f32 × FVec F S8x128 .f32 :=
  let v101 := k0_pay12 c p
  let v127 := k0_pay15 k0_pay4 c a b p t0
  let v129 := k0_pay16 k0_pay4 c a b p t0
  let v137 := k0_pay17 k0_pay4 c a b p t0
  let v144 := k0_pay18 c p t1
  let v173 := k0_pay22 k0_pay4 c v101 v127 v129 v137 v144 t2
  let v194 := k0_pay23 k0_pay4 c v101 v127 v129 v137 v144 t2 t3
  let v196 := k0_pay24 k0_pay4 c v101 v127 v129 v137 v144 t2 t3
  let v198 := k0_pay25 k0_pay4 c v101 v127 v129 v137 v144 t2 t3
  let v200 := k0_pay26 k0_pay4 c v101 v127 v129 v137 v144 t2 t3
  let v242 := k0_pay30 k0_pay4 c v101 v173 v194 v196 v198 v200 t4 t5
  let v244 := k0_pay31 k0_pay4 c v101 v173 v194 v196 v198 v200 t4 t5
  let v252 := k0_pay32 k0_pay4 c v101 v173 v194 v196 v198 v200 t4 t5
  (k0_pay119 k0_pay4 c v101 v242 v244 v252 t6 t7, k0_pay120 k0_pay4 c v101 v244 v252 t6)

/-- What block 2 stores into the two buffers, from the rows it loads: the lane multiplier `c`, the prediction rows `p`,
    the two buffers' rows `a` and `b`, and the eight target windows `t0` … `t7`. -/
def val2 (c : F .f32) (p a b : Vec F S136x128 .f32) (t0 t1 t2 t3 t4 t5 t6 t7 : Vec F S136x128 .f32) : FVec F S128x128 .f32 × FVec F S128x128 .f32 :=
  let v101 := k0_pay33 c p
  let v127 := k0_pay36 k0_pay4 c a b p t0
  let v129 := k0_pay37 k0_pay4 c a b p t0
  let v137 := k0_pay38 k0_pay4 c a b p t0
  let v144 := k0_pay39 c p t1
  let v173 := k0_pay43 k0_pay4 c v101 v127 v129 v137 v144 t2
  let v194 := k0_pay44 k0_pay4 c v101 v127 v129 v137 v144 t2 t3
  let v196 := k0_pay45 k0_pay4 c v101 v127 v129 v137 v144 t2 t3
  let v198 := k0_pay46 k0_pay4 c v101 v127 v129 v137 v144 t2 t3
  let v200 := k0_pay47 k0_pay4 c v101 v127 v129 v137 v144 t2 t3
  let v242 := k0_pay51 k0_pay4 c v101 v173 v194 v196 v198 v200 t4 t5
  let v244 := k0_pay52 k0_pay4 c v101 v173 v194 v196 v198 v200 t4 t5
  let v252 := k0_pay53 k0_pay4 c v101 v173 v194 v196 v198 v200 t4 t5
  (k0_pay123 k0_pay4 c v101 v242 v244 v252 t6 t7, k0_pay124 k0_pay4 c v101 v244 v252 t6)

/-- What block 3 stores into the two buffers, from the rows it loads: the lane multiplier `c`, the prediction rows `p`,
    the two buffers' rows `a` and `b`, and the eight target windows `t0` … `t7`. -/
def val3 (c : F .f32) (p a b : Vec F S136x128 .f32) (t0 t1 t2 t3 t4 t5 t6 t7 : Vec F S136x128 .f32) : FVec F S128x128 .f32 × FVec F S128x128 .f32 :=
  let v101 := k0_pay54 c p
  let v127 := k0_pay57 k0_pay4 c a b p t0
  let v129 := k0_pay58 k0_pay4 c a b p t0
  let v137 := k0_pay59 k0_pay4 c a b p t0
  let v144 := k0_pay60 c p t1
  let v173 := k0_pay64 k0_pay4 c v101 v127 v129 v137 v144 t2
  let v194 := k0_pay65 k0_pay4 c v101 v127 v129 v137 v144 t2 t3
  let v196 := k0_pay66 k0_pay4 c v101 v127 v129 v137 v144 t2 t3
  let v198 := k0_pay67 k0_pay4 c v101 v127 v129 v137 v144 t2 t3
  let v200 := k0_pay68 k0_pay4 c v101 v127 v129 v137 v144 t2 t3
  let v242 := k0_pay72 k0_pay4 c v101 v173 v194 v196 v198 v200 t4 t5
  let v244 := k0_pay73 k0_pay4 c v101 v173 v194 v196 v198 v200 t4 t5
  let v252 := k0_pay74 k0_pay4 c v101 v173 v194 v196 v198 v200 t4 t5
  (k0_pay127 k0_pay4 c v101 v242 v244 v252 t6 t7, k0_pay128 k0_pay4 c v101 v244 v252 t6)

/-- What block 4 stores into the two buffers, from the rows it loads: the lane multiplier `c`, the prediction rows `p`,
    the two buffers' rows `a` and `b`, and the eight target windows `t0` … `t7`. -/
def val4 (c : F .f32) (p a b : Vec F S136x128 .f32) (t0 t1 t2 t3 t4 t5 t6 t7 : Vec F S136x128 .f32) : FVec F S128x128 .f32 × FVec F S128x128 .f32 :=
  let v101 := k0_pay75 c p
  let v127 := k0_pay78 k0_pay4 c a b p t0
  let v129 := k0_pay79 k0_pay4 c a b p t0
  let v137 := k0_pay80 k0_pay4 c a b p t0
  let v144 := k0_pay81 c p t1
  let v173 := k0_pay85 k0_pay4 c v101 v127 v129 v137 v144 t2
  let v194 := k0_pay86 k0_pay4 c v101 v127 v129 v137 v144 t2 t3
  let v196 := k0_pay87 k0_pay4 c v101 v127 v129 v137 v144 t2 t3
  let v198 := k0_pay88 k0_pay4 c v101 v127 v129 v137 v144 t2 t3
  let v200 := k0_pay89 k0_pay4 c v101 v127 v129 v137 v144 t2 t3
  let v242 := k0_pay93 k0_pay4 c v101 v173 v194 v196 v198 v200 t4 t5
  let v244 := k0_pay94 k0_pay4 c v101 v173 v194 v196 v198 v200 t4 t5
  let v252 := k0_pay95 k0_pay4 c v101 v173 v194 v196 v198 v200 t4 t5
  (k0_pay131 k0_pay4 c v101 v242 v244 v252 t6 t7, k0_pay132 k0_pay4 c v101 v244 v252 t6)

/-- What block 5 stores into the two buffers, from the rows it loads: the lane multiplier `c`, the prediction rows `p`,
    the two buffers' rows `a` and `b`, and the eight target windows `t0` … `t7`. -/
def val5 (c : F .f32) (p a b : Vec F S128x128 .f32) (t0 t1 t2 t3 t4 t5 t6 t7 : Vec F S136x128 .f32) : FVec F S128x128 .f32 × FVec F S128x128 .f32 :=
  let v104 := k0_pay97 k0_pay3 c p
  let v130 := k0_pay100 k0_pay2 k0_pay3 k0_pay4 c a b p t0
  let v132 := k0_pay101 k0_pay2 k0_pay3 k0_pay4 c a b p t0
  let v140 := k0_pay102 k0_pay2 k0_pay3 k0_pay4 c a b p t0
  let v144 := k0_pay103 t1
  let v176 := k0_pay107 k0_pay4 c v104 v130 v132 v140 v144 t2
  let v197 := k0_pay108 k0_pay4 c v104 v130 v132 v140 v144 t2 t3
  let v199 := k0_pay109 k0_pay4 c v104 v130 v132 v140 v144 t2 t3
  let v200 := k0_pay110 k0_pay4 c v104 v130 v132 v140 v144 t2 t3
  let v245 := k0_pay114 k0_pay4 c v104 v176 v197 v199 v200 t4 t5
  let v247 := k0_pay115 k0_pay4 c v104 v176 v197 v199 v200 t4 t5
  let v255 := k0_pay116 k0_pay4 c v104 v176 v197 v199 v200 t4 t5
  (k0_pay7 v104 v245 v247 v255 t6 t7, k0_pay8 v104 v247 v255 t6)

/-- The scratch contents after block 1 of trip `k`. -/
def blk1 (c : F .f32) (k : Fin k0_t1_loop.trips) (x1 : Vec F S520x128 .f32) (x2 : Vec F S1552x128 .f32) (s : Scr F) : Scr F :=
  if h : k0_cond1 k = 1#1 then
    let r := val1 c (View.ld x1 (Rect.unit (s := S520x128) ![504, 0] S16x128.size inb_S520x128_S16x128_504_0)) (View.ld s.1 (Rect.unit (s := S520x128) ![504, 0] S16x128.size inb_S520x128_S16x128_504_0)) (View.ld s.2 (Rect.unit (s := S520x128) ![504, 0] S16x128.size inb_S520x128_S16x128_504_0))
      (View.ld x2 (Rect.unit (s := S1552x128) (k0_off1 k 0#32) S16x128.size (k0_off1_inb k h 0)))
      (View.ld x2 (Rect.unit (s := S1552x128) (k0_off1 k 1#32) S16x128.size (k0_off1_inb k h 1)))
      (View.ld x2 (Rect.unit (s := S1552x128) (k0_off1 k 2#32) S16x128.size (k0_off1_inb k h 2)))
      (View.ld x2 (Rect.unit (s := S1552x128) (k0_off1 k 3#32) S16x128.size (k0_off1_inb k h 3)))
      (View.ld x2 (Rect.unit (s := S1552x128) (k0_off1 k 4#32) S16x128.size (k0_off1_inb k h 4)))
      (View.ld x2 (Rect.unit (s := S1552x128) (k0_off1 k 5#32) S16x128.size (k0_off1_inb k h 5)))
      (View.ld x2 (Rect.unit (s := S1552x128) (k0_off1 k 6#32) S16x128.size (k0_off1_inb k h 6)))
      (View.ld x2 (Rect.unit (s := S1552x128) (k0_off1 k 7#32) S16x128.size (k0_off1_inb k h 7)))
    (put (Rect.unit (s := S520x128) ![512, 0] S8x128.size inb_S520x128_S8x128_512_0) r.1 s.1, put (Rect.unit (s := S520x128) ![512, 0] S8x128.size inb_S520x128_S8x128_512_0) r.2 s.2)
  else s

/-- The scratch contents after block 2 of trip `k`. -/
def blk2 (c : F .f32) (k : Fin k0_t1_loop.trips) (x1 : Vec F S520x128 .f32) (x2 : Vec F S1552x128 .f32) (s : Scr F) : Scr F :=
  if h : k0_cond2 k = 1#1 then
    let r := val2 c (View.ld x1 (Rect.unit (s := S520x128) ![376, 0] S136x128.size inb_S520x128_S136x128_376_0)) (View.ld s.1 (Rect.unit (s := S520x128) ![376, 0] S136x128.size inb_S520x128_S136x128_376_0)) (View.ld s.2 (Rect.unit (s := S520x128) ![376, 0] S136x128.size inb_S520x128_S136x128_376_0))
      (View.ld x2 (Rect.unit (s := S1552x128) (k0_off2 k 0#32) S136x128.size (k0_off2_inb k h 0)))
      (View.ld x2 (Rect.unit (s := S1552x128) (k0_off2 k 1#32) S136x128.size (k0_off2_inb k h 1)))
      (View.ld x2 (Rect.unit (s := S1552x128) (k0_off2 k 2#32) S136x128.size (k0_off2_inb k h 2)))
      (View.ld x2 (Rect.unit (s := S1552x128) (k0_off2 k 3#32) S136x128.size (k0_off2_inb k h 3)))
      (View.ld x2 (Rect.unit (s := S1552x128) (k0_off2 k 4#32) S136x128.size (k0_off2_inb k h 4)))
      (View.ld x2 (Rect.unit (s := S1552x128) (k0_off2 k 5#32) S136x128.size (k0_off2_inb k h 5)))
      (View.ld x2 (Rect.unit (s := S1552x128) (k0_off2 k 6#32) S136x128.size (k0_off2_inb k h 6)))
      (View.ld x2 (Rect.unit (s := S1552x128) (k0_off2 k 7#32) S136x128.size (k0_off2_inb k h 7)))
    (put (Rect.unit (s := S520x128) ![384, 0] S128x128.size inb_S520x128_S128x128_384_0) r.1 s.1, put (Rect.unit (s := S520x128) ![384, 0] S128x128.size inb_S520x128_S128x128_384_0) r.2 s.2)
  else s

/-- The scratch contents after block 3 of trip `k`. -/
def blk3 (c : F .f32) (k : Fin k0_t1_loop.trips) (x1 : Vec F S520x128 .f32) (x2 : Vec F S1552x128 .f32) (s : Scr F) : Scr F :=
  if h : k0_cond3 k = 1#1 then
    let r := val3 c (View.ld x1 (Rect.unit (s := S520x128) ![248, 0] S136x128.size inb_S520x128_S136x128_248_0)) (View.ld s.1 (Rect.unit (s := S520x128) ![248, 0] S136x128.size inb_S520x128_S136x128_248_0)) (View.ld s.2 (Rect.unit (s := S520x128) ![248, 0] S136x128.size inb_S520x128_S136x128_248_0))
      (View.ld x2 (Rect.unit (s := S1552x128) (k0_off3 k 0#32) S136x128.size (k0_off3_inb k h 0)))
      (View.ld x2 (Rect.unit (s := S1552x128) (k0_off3 k 1#32) S136x128.size (k0_off3_inb k h 1)))
      (View.ld x2 (Rect.unit (s := S1552x128) (k0_off3 k 2#32) S136x128.size (k0_off3_inb k h 2)))
      (View.ld x2 (Rect.unit (s := S1552x128) (k0_off3 k 3#32) S136x128.size (k0_off3_inb k h 3)))
      (View.ld x2 (Rect.unit (s := S1552x128) (k0_off3 k 4#32) S136x128.size (k0_off3_inb k h 4)))
      (View.ld x2 (Rect.unit (s := S1552x128) (k0_off3 k 5#32) S136x128.size (k0_off3_inb k h 5)))
      (View.ld x2 (Rect.unit (s := S1552x128) (k0_off3 k 6#32) S136x128.size (k0_off3_inb k h 6)))
      (View.ld x2 (Rect.unit (s := S1552x128) (k0_off3 k 7#32) S136x128.size (k0_off3_inb k h 7)))
    (put (Rect.unit (s := S520x128) ![256, 0] S128x128.size inb_S520x128_S128x128_256_0) r.1 s.1, put (Rect.unit (s := S520x128) ![256, 0] S128x128.size inb_S520x128_S128x128_256_0) r.2 s.2)
  else s

/-- The scratch contents after block 4 of trip `k`. -/
def blk4 (c : F .f32) (k : Fin k0_t1_loop.trips) (x1 : Vec F S520x128 .f32) (x2 : Vec F S1552x128 .f32) (s : Scr F) : Scr F :=
  if h : k0_cond4 k = 1#1 then
    let r := val4 c (View.ld x1 (Rect.unit (s := S520x128) ![120, 0] S136x128.size inb_S520x128_S136x128_120_0)) (View.ld s.1 (Rect.unit (s := S520x128) ![120, 0] S136x128.size inb_S520x128_S136x128_120_0)) (View.ld s.2 (Rect.unit (s := S520x128) ![120, 0] S136x128.size inb_S520x128_S136x128_120_0))
      (View.ld x2 (Rect.unit (s := S1552x128) (k0_off4 k 0#32) S136x128.size (k0_off4_inb k h 0)))
      (View.ld x2 (Rect.unit (s := S1552x128) (k0_off4 k 1#32) S136x128.size (k0_off4_inb k h 1)))
      (View.ld x2 (Rect.unit (s := S1552x128) (k0_off4 k 2#32) S136x128.size (k0_off4_inb k h 2)))
      (View.ld x2 (Rect.unit (s := S1552x128) (k0_off4 k 3#32) S136x128.size (k0_off4_inb k h 3)))
      (View.ld x2 (Rect.unit (s := S1552x128) (k0_off4 k 4#32) S136x128.size (k0_off4_inb k h 4)))
      (View.ld x2 (Rect.unit (s := S1552x128) (k0_off4 k 5#32) S136x128.size (k0_off4_inb k h 5)))
      (View.ld x2 (Rect.unit (s := S1552x128) (k0_off4 k 6#32) S136x128.size (k0_off4_inb k h 6)))
      (View.ld x2 (Rect.unit (s := S1552x128) (k0_off4 k 7#32) S136x128.size (k0_off4_inb k h 7)))
    (put (Rect.unit (s := S520x128) ![128, 0] S128x128.size inb_S520x128_S128x128_128_0) r.1 s.1, put (Rect.unit (s := S520x128) ![128, 0] S128x128.size inb_S520x128_S128x128_128_0) r.2 s.2)
  else s

/-- The scratch contents after block 5 of trip `k`. -/
def blk5 (c : F .f32) (k : Fin k0_t1_loop.trips) (x1 : Vec F S520x128 .f32) (x2 : Vec F S1552x128 .f32) (s : Scr F) : Scr F :=
  if h : k0_cond5 k = 1#1 then
    let r := val5 c (View.ld x1 (Rect.unit (s := S520x128) ![0, 0] S128x128.size inb_S520x128_S128x128_0_0)) (View.ld s.1 (Rect.unit (s := S520x128) ![0, 0] S128x128.size inb_S520x128_S128x128_0_0)) (View.ld s.2 (Rect.unit (s := S520x128) ![0, 0] S128x128.size inb_S520x128_S128x128_0_0))
      (View.ld x2 (Rect.unit (s := S1552x128) (k0_off5 k 0#32) S136x128.size (k0_off5_inb k h 0)))
      (View.ld x2 (Rect.unit (s := S1552x128) (k0_off5 k 1#32) S136x128.size (k0_off5_inb k h 1)))
      (View.ld x2 (Rect.unit (s := S1552x128) (k0_off5 k 2#32) S136x128.size (k0_off5_inb k h 2)))
      (View.ld x2 (Rect.unit (s := S1552x128) (k0_off5 k 3#32) S136x128.size (k0_off5_inb k h 3)))
      (View.ld x2 (Rect.unit (s := S1552x128) (k0_off5 k 4#32) S136x128.size (k0_off5_inb k h 4)))
      (View.ld x2 (Rect.unit (s := S1552x128) (k0_off5 k 5#32) S136x128.size (k0_off5_inb k h 5)))
      (View.ld x2 (Rect.unit (s := S1552x128) (k0_off5 k 6#32) S136x128.size (k0_off5_inb k h 6)))
      (View.ld x2 (Rect.unit (s := S1552x128) (k0_off5 k 7#32) S136x128.size (k0_off5_inb k h 7)))
    (put (Rect.unit (s := S520x128) ![0, 0] S128x128.size inb_S520x128_S128x128_0_0) r.1 s.1, put (Rect.unit (s := S520x128) ![0, 0] S128x128.size inb_S520x128_S128x128_0_0) r.2 s.2)
  else s

/-- The scratch contents after trip `k`. -/
def trip (c : F .f32) (k : Fin k0_t1_loop.trips) (x1 : Vec F S520x128 .f32) (x2 : Vec F S1552x128 .f32) (s : Scr F) : Scr F :=
  blk5 c k x1 x2 (blk4 c k x1 x2 (blk3 c k x1 x2 (blk2 c k x1 x2 (blk1 c k x1 x2 s))))

section
variable (i : grid0.Coords) (arg1 : Memref sig .tc .vmem S520x128 .f32) (harg1 : arg1.IsWhole) (arg2 : Memref sig .tc .vmem S1552x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S8x128 .f32) (harg5 : arg5.IsWhole) (arg6 : Memref sig .tc .vmem S520x128 .f32) (harg6 : arg6.IsWhole) (arg7 : Memref sig .tc .vmem S520x128 .f32) (harg7 : arg7.IsWhole)

/-- Block 1 of trip `k`, run before `K`. -/
def prog1 (cst_21 : F .f32) (k0_t1 : Fin k0_t1_loop.trips) (v65 : BitVec 32) {α : Type} (K : Prog (TpuEff nD τ sig (Elt F) Λ₀ .tc) α) :
    Prog (TpuEff nD τ sig (Elt F) Λ₀ .tc) α :=
  if k0_h1 : k0_cond1 k0_t1 = 1#1 then do
    let ⟨v101, v102, v127, v129, v137, v144⟩ : Σ' (v101 : FVec F S16x128 .f32) (v102 : BitVec 32) (v127 : FVec F S16x128 .f32) (v129 : FVec F S16x128 .f32) (v137 : FVec F S16x128 .f32), FVec F S16x128 .f32 ← k0_part1 i arg1 harg1 arg2 harg2 arg3 harg3 arg4 harg4 arg5 harg5 arg6 harg6 arg7 harg7 (k0_pay4 (F := F)) cst_21 k0_t1 v65 k0_h1
    let ⟨v173, v194, v196, v198, v200⟩ : Σ' (v173 : FVec F S16x128 .f32) (v194 : FVec F S16x128 .f32) (v196 : FVec F S16x128 .f32) (v198 : FVec F S16x128 .f32), FVec F S16x128 .f32 ← k0_part2 i arg1 harg1 arg2 harg2 arg3 harg3 arg4 harg4 arg5 harg5 arg6 harg6 arg7 harg7 (k0_pay4 (F := F)) cst_21 k0_t1 k0_h1 v101 v102 v127 v129 v137 v144
    let ⟨v242, v244, v252⟩ : Σ' (v242 : FVec F S16x128 .f32) (v244 : FVec F S16x128 .f32), FVec F S16x128 .f32 ← k0_part3 i arg1 harg1 arg2 harg2 arg3 harg3 arg4 harg4 arg5 harg5 arg6 harg6 arg7 harg7 (k0_pay4 (F := F)) cst_21 k0_t1 k0_h1 v101 v102 v173 v194 v196 v198 v200
    let v255 : Vec F S16x128 .f32 ← Prog.lift (.load arg2 (Rect.unit (s := S1552x128) (k0_off1 k0_t1 6#32) S16x128.size (k0_off1_inb k0_t1 k0_h1 6)).toLoadRect (View.loadsAt_vmem h_S16x128))
    let v278 : Vec F S16x128 .f32 ← Prog.lift (.load arg2 (Rect.unit (s := S1552x128) (k0_off1 k0_t1 7#32) S16x128.size (k0_off1_inb k0_t1 k0_h1 7)).toLoadRect (View.loadsAt_vmem h_S16x128))
    let v288 : Vec F S8x128 .f32 ← Prog.lift (.load arg6 (Rect.unit (s := S520x128) ![512, 0] S8x128.size inb_S520x128_S8x128_512_0).toLoadRect (View.loadsAt_vmem h_S8x128))
    Prog.lift (.store arg6 (Rect.unit (s := S520x128) ![512, 0] S8x128.size inb_S520x128_S8x128_512_0) (k0_pay119 (k0_pay4 (F := F)) cst_21 v101 v242 v244 v252 v255 v278) Finset.univ (View.stores_vmem_bits_univ h_S8x128 rfl) (.inl rfl))
    let v292 : Vec F S8x128 .f32 ← Prog.lift (.load arg7 (Rect.unit (s := S520x128) ![512, 0] S8x128.size inb_S520x128_S8x128_512_0).toLoadRect (View.loadsAt_vmem h_S8x128))
    Prog.lift (.store arg7 (Rect.unit (s := S520x128) ![512, 0] S8x128.size inb_S520x128_S8x128_512_0) (k0_pay120 (k0_pay4 (F := F)) cst_21 v101 v244 v252 v255) Finset.univ (View.stores_vmem_bits_univ h_S8x128 rfl) (.inl rfl))
    K
  else K

set_option maxHeartbeats 4000000 in
/-- Running block 1 leaves `blk1` in the scratch buffers and the rest as it was. -/
theorem run1 (c : Dev nD) (cst_21 : F .f32) (k0_t1 : Fin k0_t1_loop.trips) (v65 : BitVec 32) {α : Type} (K : Prog (TpuEff nD τ sig (Elt F) Λ₀ .tc) α)
    (E : Set ℕ) (Q : α → sProp 𝕄) (x1 : Vec F S520x128 .f32) (x2 : Vec F S1552x128 .f32) (s : Scr F) :
    iprop(owns (c : Thread nD τ) arg1 fullShare x1 ∗ owns (c : Thread nD τ) arg2 fullShare x2
        ∗ owns (c : Thread nD τ) arg6 fullShare s.1 ∗ owns (c : Thread nD τ) arg7 fullShare s.2
        ∗ (iprop(owns (c : Thread nD τ) arg1 fullShare x1 ∗ owns (c : Thread nD τ) arg2 fullShare x2
            ∗ owns (c : Thread nD τ) arg6 fullShare (blk1 cst_21 k0_t1 x1 x2 s).1 ∗ owns (c : Thread nD τ) arg7 fullShare (blk1 cst_21 k0_t1 x1 x2 s).2)
            -∗ wp frame (wpE (defs₀ (F := F)) Variants.none c none) E K Q))
      ⊢ wp frame (wpE (defs₀ (F := F)) Variants.none c none) E (prog1 i arg1 harg1 arg2 harg2 arg3 harg3 arg4 harg4 arg5 harg5 arg6 harg6 arg7 harg7 cst_21 k0_t1 v65 K) Q := by
  obtain ⟨a, b⟩ := s
  by_cases h : k0_cond1 k0_t1 = 1#1
  · unfold prog1 blk1
    rw [dif_pos h, dif_pos h]
    simp only [k0_part1_eq_skeleton, k0_part2_eq_skeleton, k0_part3_eq_skeleton]
    unfold k0_part1_skel k0_part2_skel k0_part3_skel owns
    iintro ⟨⟨%f1, %hf1, H1⟩, ⟨%f2, %hf2, H2⟩, ⟨%f6, %hf6, H6⟩, ⟨%f7, %hf7, H7⟩, Hk⟩
    sl_exec
    iapply Hk
    isplitl [H1]
    · iexists _; isplitr; · ipureintro; exact hf1
      iexact H1
    isplitl [H2]
    · iexists _; isplitr; · ipureintro; exact hf2
      iexact H2
    isplitl [H6]
    · iexists _; isplitr; swap; · iexact H6
      ipureintro
      subst hf1 hf2 hf6 hf7
      refine (read_writes_put _ _ _ _).trans ?_
      dsimp only [val1, View.readAt_eq_ld]
    · iexists _; isplitr; swap; · iexact H7
      ipureintro
      subst hf1 hf2 hf6 hf7
      refine (read_writes_put _ _ _ _).trans ?_
      dsimp only [val1, View.readAt_eq_ld]
  · unfold prog1 blk1
    rw [dif_neg h, dif_neg h]
    iintro ⟨H1, H2, H6, H7, Hk⟩
    iapply Hk
    isplitl [H1]; · iexact H1
    isplitl [H2]; · iexact H2
    isplitl [H6]; · iexact H6
    iexact H7

/-- Block 2 of trip `k`, run before `K`. -/
def prog2 (cst_21 : F .f32) (k0_t1 : Fin k0_t1_loop.trips) (v65 : BitVec 32) {α : Type} (K : Prog (TpuEff nD τ sig (Elt F) Λ₀ .tc) α) :
    Prog (TpuEff nD τ sig (Elt F) Λ₀ .tc) α :=
  if k0_h2 : k0_cond2 k0_t1 = 1#1 then do
    let ⟨v101, v102, v127, v129, v137, v144⟩ : Σ' (v101 : FVec F S136x128 .f32) (v102 : BitVec 32) (v127 : FVec F S136x128 .f32) (v129 : FVec F S136x128 .f32) (v137 : FVec F S136x128 .f32), FVec F S136x128 .f32 ← k0_part4 i arg1 harg1 arg2 harg2 arg3 harg3 arg4 harg4 arg5 harg5 arg6 harg6 arg7 harg7 (k0_pay4 (F := F)) cst_21 k0_t1 v65 k0_h2
    let ⟨v173, v194, v196, v198, v200⟩ : Σ' (v173 : FVec F S136x128 .f32) (v194 : FVec F S136x128 .f32) (v196 : FVec F S136x128 .f32) (v198 : FVec F S136x128 .f32), FVec F S136x128 .f32 ← k0_part5 i arg1 harg1 arg2 harg2 arg3 harg3 arg4 harg4 arg5 harg5 arg6 harg6 arg7 harg7 (k0_pay4 (F := F)) cst_21 k0_t1 k0_h2 v101 v102 v127 v129 v137 v144
    let ⟨v242, v244, v252⟩ : Σ' (v242 : FVec F S136x128 .f32) (v244 : FVec F S136x128 .f32), FVec F S136x128 .f32 ← k0_part6 i arg1 harg1 arg2 harg2 arg3 harg3 arg4 harg4 arg5 harg5 arg6 harg6 arg7 harg7 (k0_pay4 (F := F)) cst_21 k0_t1 k0_h2 v101 v102 v173 v194 v196 v198 v200
    let v255 : Vec F S136x128 .f32 ← Prog.lift (.load arg2 (Rect.unit (s := S1552x128) (k0_off2 k0_t1 6#32) S136x128.size (k0_off2_inb k0_t1 k0_h2 6)).toLoadRect (View.loadsAt_vmem h_S136x128))
    let v278 : Vec F S136x128 .f32 ← Prog.lift (.load arg2 (Rect.unit (s := S1552x128) (k0_off2 k0_t1 7#32) S136x128.size (k0_off2_inb k0_t1 k0_h2 7)).toLoadRect (View.loadsAt_vmem h_S136x128))
    let v288 : Vec F S128x128 .f32 ← Prog.lift (.load arg6 (Rect.unit (s := S520x128) ![384, 0] S128x128.size inb_S520x128_S128x128_384_0).toLoadRect (View.loadsAt_vmem h_S128x128))
    Prog.lift (.store arg6 (Rect.unit (s := S520x128) ![384, 0] S128x128.size inb_S520x128_S128x128_384_0) (k0_pay123 (k0_pay4 (F := F)) cst_21 v101 v242 v244 v252 v255 v278) Finset.univ (View.stores_vmem_bits_univ h_S128x128 rfl) (.inl rfl))
    let v292 : Vec F S128x128 .f32 ← Prog.lift (.load arg7 (Rect.unit (s := S520x128) ![384, 0] S128x128.size inb_S520x128_S128x128_384_0).toLoadRect (View.loadsAt_vmem h_S128x128))
    Prog.lift (.store arg7 (Rect.unit (s := S520x128) ![384, 0] S128x128.size inb_S520x128_S128x128_384_0) (k0_pay124 (k0_pay4 (F := F)) cst_21 v101 v244 v252 v255) Finset.univ (View.stores_vmem_bits_univ h_S128x128 rfl) (.inl rfl))
    K
  else K

set_option maxHeartbeats 4000000 in
/-- Running block 2 leaves `blk2` in the scratch buffers and the rest as it was. -/
theorem run2 (c : Dev nD) (cst_21 : F .f32) (k0_t1 : Fin k0_t1_loop.trips) (v65 : BitVec 32) {α : Type} (K : Prog (TpuEff nD τ sig (Elt F) Λ₀ .tc) α)
    (E : Set ℕ) (Q : α → sProp 𝕄) (x1 : Vec F S520x128 .f32) (x2 : Vec F S1552x128 .f32) (s : Scr F) :
    iprop(owns (c : Thread nD τ) arg1 fullShare x1 ∗ owns (c : Thread nD τ) arg2 fullShare x2
        ∗ owns (c : Thread nD τ) arg6 fullShare s.1 ∗ owns (c : Thread nD τ) arg7 fullShare s.2
        ∗ (iprop(owns (c : Thread nD τ) arg1 fullShare x1 ∗ owns (c : Thread nD τ) arg2 fullShare x2
            ∗ owns (c : Thread nD τ) arg6 fullShare (blk2 cst_21 k0_t1 x1 x2 s).1 ∗ owns (c : Thread nD τ) arg7 fullShare (blk2 cst_21 k0_t1 x1 x2 s).2)
            -∗ wp frame (wpE (defs₀ (F := F)) Variants.none c none) E K Q))
      ⊢ wp frame (wpE (defs₀ (F := F)) Variants.none c none) E (prog2 i arg1 harg1 arg2 harg2 arg3 harg3 arg4 harg4 arg5 harg5 arg6 harg6 arg7 harg7 cst_21 k0_t1 v65 K) Q := by
  obtain ⟨a, b⟩ := s
  by_cases h : k0_cond2 k0_t1 = 1#1
  · unfold prog2 blk2
    rw [dif_pos h, dif_pos h]
    simp only [k0_part4_eq_skeleton, k0_part5_eq_skeleton, k0_part6_eq_skeleton]
    unfold k0_part4_skel k0_part5_skel k0_part6_skel owns
    iintro ⟨⟨%f1, %hf1, H1⟩, ⟨%f2, %hf2, H2⟩, ⟨%f6, %hf6, H6⟩, ⟨%f7, %hf7, H7⟩, Hk⟩
    sl_exec
    iapply Hk
    isplitl [H1]
    · iexists _; isplitr; · ipureintro; exact hf1
      iexact H1
    isplitl [H2]
    · iexists _; isplitr; · ipureintro; exact hf2
      iexact H2
    isplitl [H6]
    · iexists _; isplitr; swap; · iexact H6
      ipureintro
      subst hf1 hf2 hf6 hf7
      refine (read_writes_put _ _ _ _).trans ?_
      dsimp only [val2, View.readAt_eq_ld]
    · iexists _; isplitr; swap; · iexact H7
      ipureintro
      subst hf1 hf2 hf6 hf7
      refine (read_writes_put _ _ _ _).trans ?_
      dsimp only [val2, View.readAt_eq_ld]
  · unfold prog2 blk2
    rw [dif_neg h, dif_neg h]
    iintro ⟨H1, H2, H6, H7, Hk⟩
    iapply Hk
    isplitl [H1]; · iexact H1
    isplitl [H2]; · iexact H2
    isplitl [H6]; · iexact H6
    iexact H7

/-- Block 3 of trip `k`, run before `K`. -/
def prog3 (cst_21 : F .f32) (k0_t1 : Fin k0_t1_loop.trips) (v65 : BitVec 32) {α : Type} (K : Prog (TpuEff nD τ sig (Elt F) Λ₀ .tc) α) :
    Prog (TpuEff nD τ sig (Elt F) Λ₀ .tc) α :=
  if k0_h3 : k0_cond3 k0_t1 = 1#1 then do
    let ⟨v101, v102, v127, v129, v137, v144⟩ : Σ' (v101 : FVec F S136x128 .f32) (v102 : BitVec 32) (v127 : FVec F S136x128 .f32) (v129 : FVec F S136x128 .f32) (v137 : FVec F S136x128 .f32), FVec F S136x128 .f32 ← k0_part7 i arg1 harg1 arg2 harg2 arg3 harg3 arg4 harg4 arg5 harg5 arg6 harg6 arg7 harg7 (k0_pay4 (F := F)) cst_21 k0_t1 v65 k0_h3
    let ⟨v173, v194, v196, v198, v200⟩ : Σ' (v173 : FVec F S136x128 .f32) (v194 : FVec F S136x128 .f32) (v196 : FVec F S136x128 .f32) (v198 : FVec F S136x128 .f32), FVec F S136x128 .f32 ← k0_part8 i arg1 harg1 arg2 harg2 arg3 harg3 arg4 harg4 arg5 harg5 arg6 harg6 arg7 harg7 (k0_pay4 (F := F)) cst_21 k0_t1 k0_h3 v101 v102 v127 v129 v137 v144
    let ⟨v242, v244, v252⟩ : Σ' (v242 : FVec F S136x128 .f32) (v244 : FVec F S136x128 .f32), FVec F S136x128 .f32 ← k0_part9 i arg1 harg1 arg2 harg2 arg3 harg3 arg4 harg4 arg5 harg5 arg6 harg6 arg7 harg7 (k0_pay4 (F := F)) cst_21 k0_t1 k0_h3 v101 v102 v173 v194 v196 v198 v200
    let v255 : Vec F S136x128 .f32 ← Prog.lift (.load arg2 (Rect.unit (s := S1552x128) (k0_off3 k0_t1 6#32) S136x128.size (k0_off3_inb k0_t1 k0_h3 6)).toLoadRect (View.loadsAt_vmem h_S136x128))
    let v278 : Vec F S136x128 .f32 ← Prog.lift (.load arg2 (Rect.unit (s := S1552x128) (k0_off3 k0_t1 7#32) S136x128.size (k0_off3_inb k0_t1 k0_h3 7)).toLoadRect (View.loadsAt_vmem h_S136x128))
    let v288 : Vec F S128x128 .f32 ← Prog.lift (.load arg6 (Rect.unit (s := S520x128) ![256, 0] S128x128.size inb_S520x128_S128x128_256_0).toLoadRect (View.loadsAt_vmem h_S128x128))
    Prog.lift (.store arg6 (Rect.unit (s := S520x128) ![256, 0] S128x128.size inb_S520x128_S128x128_256_0) (k0_pay127 (k0_pay4 (F := F)) cst_21 v101 v242 v244 v252 v255 v278) Finset.univ (View.stores_vmem_bits_univ h_S128x128 rfl) (.inl rfl))
    let v292 : Vec F S128x128 .f32 ← Prog.lift (.load arg7 (Rect.unit (s := S520x128) ![256, 0] S128x128.size inb_S520x128_S128x128_256_0).toLoadRect (View.loadsAt_vmem h_S128x128))
    Prog.lift (.store arg7 (Rect.unit (s := S520x128) ![256, 0] S128x128.size inb_S520x128_S128x128_256_0) (k0_pay128 (k0_pay4 (F := F)) cst_21 v101 v244 v252 v255) Finset.univ (View.stores_vmem_bits_univ h_S128x128 rfl) (.inl rfl))
    K
  else K

set_option maxHeartbeats 4000000 in
/-- Running block 3 leaves `blk3` in the scratch buffers and the rest as it was. -/
theorem run3 (c : Dev nD) (cst_21 : F .f32) (k0_t1 : Fin k0_t1_loop.trips) (v65 : BitVec 32) {α : Type} (K : Prog (TpuEff nD τ sig (Elt F) Λ₀ .tc) α)
    (E : Set ℕ) (Q : α → sProp 𝕄) (x1 : Vec F S520x128 .f32) (x2 : Vec F S1552x128 .f32) (s : Scr F) :
    iprop(owns (c : Thread nD τ) arg1 fullShare x1 ∗ owns (c : Thread nD τ) arg2 fullShare x2
        ∗ owns (c : Thread nD τ) arg6 fullShare s.1 ∗ owns (c : Thread nD τ) arg7 fullShare s.2
        ∗ (iprop(owns (c : Thread nD τ) arg1 fullShare x1 ∗ owns (c : Thread nD τ) arg2 fullShare x2
            ∗ owns (c : Thread nD τ) arg6 fullShare (blk3 cst_21 k0_t1 x1 x2 s).1 ∗ owns (c : Thread nD τ) arg7 fullShare (blk3 cst_21 k0_t1 x1 x2 s).2)
            -∗ wp frame (wpE (defs₀ (F := F)) Variants.none c none) E K Q))
      ⊢ wp frame (wpE (defs₀ (F := F)) Variants.none c none) E (prog3 i arg1 harg1 arg2 harg2 arg3 harg3 arg4 harg4 arg5 harg5 arg6 harg6 arg7 harg7 cst_21 k0_t1 v65 K) Q := by
  obtain ⟨a, b⟩ := s
  by_cases h : k0_cond3 k0_t1 = 1#1
  · unfold prog3 blk3
    rw [dif_pos h, dif_pos h]
    simp only [k0_part7_eq_skeleton, k0_part8_eq_skeleton, k0_part9_eq_skeleton]
    unfold k0_part7_skel k0_part8_skel k0_part9_skel owns
    iintro ⟨⟨%f1, %hf1, H1⟩, ⟨%f2, %hf2, H2⟩, ⟨%f6, %hf6, H6⟩, ⟨%f7, %hf7, H7⟩, Hk⟩
    sl_exec
    iapply Hk
    isplitl [H1]
    · iexists _; isplitr; · ipureintro; exact hf1
      iexact H1
    isplitl [H2]
    · iexists _; isplitr; · ipureintro; exact hf2
      iexact H2
    isplitl [H6]
    · iexists _; isplitr; swap; · iexact H6
      ipureintro
      subst hf1 hf2 hf6 hf7
      refine (read_writes_put _ _ _ _).trans ?_
      dsimp only [val3, View.readAt_eq_ld]
    · iexists _; isplitr; swap; · iexact H7
      ipureintro
      subst hf1 hf2 hf6 hf7
      refine (read_writes_put _ _ _ _).trans ?_
      dsimp only [val3, View.readAt_eq_ld]
  · unfold prog3 blk3
    rw [dif_neg h, dif_neg h]
    iintro ⟨H1, H2, H6, H7, Hk⟩
    iapply Hk
    isplitl [H1]; · iexact H1
    isplitl [H2]; · iexact H2
    isplitl [H6]; · iexact H6
    iexact H7

/-- Block 4 of trip `k`, run before `K`. -/
def prog4 (cst_21 : F .f32) (k0_t1 : Fin k0_t1_loop.trips) (v65 : BitVec 32) {α : Type} (K : Prog (TpuEff nD τ sig (Elt F) Λ₀ .tc) α) :
    Prog (TpuEff nD τ sig (Elt F) Λ₀ .tc) α :=
  if k0_h4 : k0_cond4 k0_t1 = 1#1 then do
    let ⟨v101, v102, v127, v129, v137, v144⟩ : Σ' (v101 : FVec F S136x128 .f32) (v102 : BitVec 32) (v127 : FVec F S136x128 .f32) (v129 : FVec F S136x128 .f32) (v137 : FVec F S136x128 .f32), FVec F S136x128 .f32 ← k0_part10 i arg1 harg1 arg2 harg2 arg3 harg3 arg4 harg4 arg5 harg5 arg6 harg6 arg7 harg7 (k0_pay4 (F := F)) cst_21 k0_t1 v65 k0_h4
    let ⟨v173, v194, v196, v198, v200⟩ : Σ' (v173 : FVec F S136x128 .f32) (v194 : FVec F S136x128 .f32) (v196 : FVec F S136x128 .f32) (v198 : FVec F S136x128 .f32), FVec F S136x128 .f32 ← k0_part11 i arg1 harg1 arg2 harg2 arg3 harg3 arg4 harg4 arg5 harg5 arg6 harg6 arg7 harg7 (k0_pay4 (F := F)) cst_21 k0_t1 k0_h4 v101 v102 v127 v129 v137 v144
    let ⟨v242, v244, v252⟩ : Σ' (v242 : FVec F S136x128 .f32) (v244 : FVec F S136x128 .f32), FVec F S136x128 .f32 ← k0_part12 i arg1 harg1 arg2 harg2 arg3 harg3 arg4 harg4 arg5 harg5 arg6 harg6 arg7 harg7 (k0_pay4 (F := F)) cst_21 k0_t1 k0_h4 v101 v102 v173 v194 v196 v198 v200
    let v255 : Vec F S136x128 .f32 ← Prog.lift (.load arg2 (Rect.unit (s := S1552x128) (k0_off4 k0_t1 6#32) S136x128.size (k0_off4_inb k0_t1 k0_h4 6)).toLoadRect (View.loadsAt_vmem h_S136x128))
    let v278 : Vec F S136x128 .f32 ← Prog.lift (.load arg2 (Rect.unit (s := S1552x128) (k0_off4 k0_t1 7#32) S136x128.size (k0_off4_inb k0_t1 k0_h4 7)).toLoadRect (View.loadsAt_vmem h_S136x128))
    let v288 : Vec F S128x128 .f32 ← Prog.lift (.load arg6 (Rect.unit (s := S520x128) ![128, 0] S128x128.size inb_S520x128_S128x128_128_0).toLoadRect (View.loadsAt_vmem h_S128x128))
    Prog.lift (.store arg6 (Rect.unit (s := S520x128) ![128, 0] S128x128.size inb_S520x128_S128x128_128_0) (k0_pay131 (k0_pay4 (F := F)) cst_21 v101 v242 v244 v252 v255 v278) Finset.univ (View.stores_vmem_bits_univ h_S128x128 rfl) (.inl rfl))
    let v292 : Vec F S128x128 .f32 ← Prog.lift (.load arg7 (Rect.unit (s := S520x128) ![128, 0] S128x128.size inb_S520x128_S128x128_128_0).toLoadRect (View.loadsAt_vmem h_S128x128))
    Prog.lift (.store arg7 (Rect.unit (s := S520x128) ![128, 0] S128x128.size inb_S520x128_S128x128_128_0) (k0_pay132 (k0_pay4 (F := F)) cst_21 v101 v244 v252 v255) Finset.univ (View.stores_vmem_bits_univ h_S128x128 rfl) (.inl rfl))
    K
  else K

set_option maxHeartbeats 4000000 in
/-- Running block 4 leaves `blk4` in the scratch buffers and the rest as it was. -/
theorem run4 (c : Dev nD) (cst_21 : F .f32) (k0_t1 : Fin k0_t1_loop.trips) (v65 : BitVec 32) {α : Type} (K : Prog (TpuEff nD τ sig (Elt F) Λ₀ .tc) α)
    (E : Set ℕ) (Q : α → sProp 𝕄) (x1 : Vec F S520x128 .f32) (x2 : Vec F S1552x128 .f32) (s : Scr F) :
    iprop(owns (c : Thread nD τ) arg1 fullShare x1 ∗ owns (c : Thread nD τ) arg2 fullShare x2
        ∗ owns (c : Thread nD τ) arg6 fullShare s.1 ∗ owns (c : Thread nD τ) arg7 fullShare s.2
        ∗ (iprop(owns (c : Thread nD τ) arg1 fullShare x1 ∗ owns (c : Thread nD τ) arg2 fullShare x2
            ∗ owns (c : Thread nD τ) arg6 fullShare (blk4 cst_21 k0_t1 x1 x2 s).1 ∗ owns (c : Thread nD τ) arg7 fullShare (blk4 cst_21 k0_t1 x1 x2 s).2)
            -∗ wp frame (wpE (defs₀ (F := F)) Variants.none c none) E K Q))
      ⊢ wp frame (wpE (defs₀ (F := F)) Variants.none c none) E (prog4 i arg1 harg1 arg2 harg2 arg3 harg3 arg4 harg4 arg5 harg5 arg6 harg6 arg7 harg7 cst_21 k0_t1 v65 K) Q := by
  obtain ⟨a, b⟩ := s
  by_cases h : k0_cond4 k0_t1 = 1#1
  · unfold prog4 blk4
    rw [dif_pos h, dif_pos h]
    simp only [k0_part10_eq_skeleton, k0_part11_eq_skeleton, k0_part12_eq_skeleton]
    unfold k0_part10_skel k0_part11_skel k0_part12_skel owns
    iintro ⟨⟨%f1, %hf1, H1⟩, ⟨%f2, %hf2, H2⟩, ⟨%f6, %hf6, H6⟩, ⟨%f7, %hf7, H7⟩, Hk⟩
    sl_exec
    iapply Hk
    isplitl [H1]
    · iexists _; isplitr; · ipureintro; exact hf1
      iexact H1
    isplitl [H2]
    · iexists _; isplitr; · ipureintro; exact hf2
      iexact H2
    isplitl [H6]
    · iexists _; isplitr; swap; · iexact H6
      ipureintro
      subst hf1 hf2 hf6 hf7
      refine (read_writes_put _ _ _ _).trans ?_
      dsimp only [val4, View.readAt_eq_ld]
    · iexists _; isplitr; swap; · iexact H7
      ipureintro
      subst hf1 hf2 hf6 hf7
      refine (read_writes_put _ _ _ _).trans ?_
      dsimp only [val4, View.readAt_eq_ld]
  · unfold prog4 blk4
    rw [dif_neg h, dif_neg h]
    iintro ⟨H1, H2, H6, H7, Hk⟩
    iapply Hk
    isplitl [H1]; · iexact H1
    isplitl [H2]; · iexact H2
    isplitl [H6]; · iexact H6
    iexact H7

/-- Block 5 of trip `k`, run before `K`. -/
def prog5 (cst_21 : F .f32) (k0_t1 : Fin k0_t1_loop.trips) (v65 : BitVec 32) {α : Type} (K : Prog (TpuEff nD τ sig (Elt F) Λ₀ .tc) α) :
    Prog (TpuEff nD τ sig (Elt F) Λ₀ .tc) α :=
  if k0_h5 : k0_cond5 k0_t1 = 1#1 then do
    let ⟨v104, v105, v130, v132, v140, v144⟩ : Σ' (v104 : FVec F S136x128 .f32) (v105 : BitVec 32) (v130 : FVec F S136x128 .f32) (v132 : FVec F S136x128 .f32) (v140 : FVec F S136x128 .f32), FVec F S136x128 .f32 ← k0_part13 i arg1 harg1 arg2 harg2 arg3 harg3 arg4 harg4 arg5 harg5 arg6 harg6 arg7 harg7 (k0_pay2 (F := F)) (k0_pay3 (F := F)) (k0_pay4 (F := F)) cst_21 k0_t1 v65 k0_h5
    let ⟨v176, v197, v199, v200⟩ : Σ' (v176 : FVec F S136x128 .f32) (v197 : FVec F S136x128 .f32) (v199 : FVec F S136x128 .f32), FVec F S136x128 .f32 ← k0_part14 i arg1 harg1 arg2 harg2 arg3 harg3 arg4 harg4 arg5 harg5 arg6 harg6 arg7 harg7 (k0_pay4 (F := F)) cst_21 k0_t1 k0_h5 v104 v105 v130 v132 v140 v144
    let ⟨v245, v247, v255, c6_i32_57⟩ : Σ' (v245 : FVec F S136x128 .f32) (v247 : FVec F S136x128 .f32) (v255 : FVec F S136x128 .f32), BitVec 32 ← k0_part15 i arg1 harg1 arg2 harg2 arg3 harg3 arg4 harg4 arg5 harg5 arg6 harg6 arg7 harg7 (k0_pay4 (F := F)) cst_21 k0_t1 k0_h5 v104 v105 v176 v197 v199 v200
    let v258 : Vec F S136x128 .f32 ← Prog.lift (.load arg2 (Rect.unit (s := S1552x128) (k0_off5 k0_t1 6#32) S136x128.size (k0_off5_inb k0_t1 k0_h5 6)).toLoadRect (View.loadsAt_vmem h_S136x128))
    let v281 : Vec F S136x128 .f32 ← Prog.lift (.load arg2 (Rect.unit (s := S1552x128) (k0_off5 k0_t1 7#32) S136x128.size (k0_off5_inb k0_t1 k0_h5 7)).toLoadRect (View.loadsAt_vmem h_S136x128))
    let v291 : Vec F S128x128 .f32 ← Prog.lift (.load arg6 (Rect.unit (s := S520x128) ![0, 0] S128x128.size inb_S520x128_S128x128_0_0).toLoadRect (View.loadsAt_vmem h_S128x128))
    Prog.lift (.store arg6 (Rect.unit (s := S520x128) ![0, 0] S128x128.size inb_S520x128_S128x128_0_0) (k0_pay7 v104 v245 v247 v255 v258 v281) Finset.univ (View.stores_vmem_bits_univ h_S128x128 rfl) (.inl rfl))
    let v295 : Vec F S128x128 .f32 ← Prog.lift (.load arg7 (Rect.unit (s := S520x128) ![0, 0] S128x128.size inb_S520x128_S128x128_0_0).toLoadRect (View.loadsAt_vmem h_S128x128))
    Prog.lift (.store arg7 (Rect.unit (s := S520x128) ![0, 0] S128x128.size inb_S520x128_S128x128_0_0) (k0_pay8 v104 v247 v255 v258) Finset.univ (View.stores_vmem_bits_univ h_S128x128 rfl) (.inl rfl))
    K
  else K

set_option maxHeartbeats 4000000 in
/-- Running block 5 leaves `blk5` in the scratch buffers and the rest as it was. -/
theorem run5 (c : Dev nD) (cst_21 : F .f32) (k0_t1 : Fin k0_t1_loop.trips) (v65 : BitVec 32) {α : Type} (K : Prog (TpuEff nD τ sig (Elt F) Λ₀ .tc) α)
    (E : Set ℕ) (Q : α → sProp 𝕄) (x1 : Vec F S520x128 .f32) (x2 : Vec F S1552x128 .f32) (s : Scr F) :
    iprop(owns (c : Thread nD τ) arg1 fullShare x1 ∗ owns (c : Thread nD τ) arg2 fullShare x2
        ∗ owns (c : Thread nD τ) arg6 fullShare s.1 ∗ owns (c : Thread nD τ) arg7 fullShare s.2
        ∗ (iprop(owns (c : Thread nD τ) arg1 fullShare x1 ∗ owns (c : Thread nD τ) arg2 fullShare x2
            ∗ owns (c : Thread nD τ) arg6 fullShare (blk5 cst_21 k0_t1 x1 x2 s).1 ∗ owns (c : Thread nD τ) arg7 fullShare (blk5 cst_21 k0_t1 x1 x2 s).2)
            -∗ wp frame (wpE (defs₀ (F := F)) Variants.none c none) E K Q))
      ⊢ wp frame (wpE (defs₀ (F := F)) Variants.none c none) E (prog5 i arg1 harg1 arg2 harg2 arg3 harg3 arg4 harg4 arg5 harg5 arg6 harg6 arg7 harg7 cst_21 k0_t1 v65 K) Q := by
  obtain ⟨a, b⟩ := s
  by_cases h : k0_cond5 k0_t1 = 1#1
  · unfold prog5 blk5
    rw [dif_pos h, dif_pos h]
    simp only [k0_part13_eq_skeleton, k0_part14_eq_skeleton, k0_part15_eq_skeleton]
    unfold k0_part13_skel k0_part14_skel k0_part15_skel owns
    iintro ⟨⟨%f1, %hf1, H1⟩, ⟨%f2, %hf2, H2⟩, ⟨%f6, %hf6, H6⟩, ⟨%f7, %hf7, H7⟩, Hk⟩
    sl_exec
    iapply Hk
    isplitl [H1]
    · iexists _; isplitr; · ipureintro; exact hf1
      iexact H1
    isplitl [H2]
    · iexists _; isplitr; · ipureintro; exact hf2
      iexact H2
    isplitl [H6]
    · iexists _; isplitr; swap; · iexact H6
      ipureintro
      subst hf1 hf2 hf6 hf7
      refine (read_writes_put _ _ _ _).trans ?_
      dsimp only [val5, View.readAt_eq_ld]
    · iexists _; isplitr; swap; · iexact H7
      ipureintro
      subst hf1 hf2 hf6 hf7
      refine (read_writes_put _ _ _ _).trans ?_
      dsimp only [val5, View.readAt_eq_ld]
  · unfold prog5 blk5
    rw [dif_neg h, dif_neg h]
    iintro ⟨H1, H2, H6, H7, Hk⟩
    iapply Hk
    isplitl [H1]; · iexact H1
    isplitl [H2]; · iexact H2
    isplitl [H6]; · iexact H6
    iexact H7

end

end Cert.KernelIdeal.Gen

end
-- ==== Proof.Ideal.Body.lean ====
module

public import proofs.«01_k».proof.Proof.Ideal.Block

/-! The kernel's body: the loop's trips from the scratch contents it starts with, and what the body stores. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The lane multiplier the loop is run with. -/
abbrev mult : F .f32 := (Named.named κ "s" 0x404A62C2#32)

/-- The scratch contents the loop starts from. -/
def scr₀ : Scr F := (k0_pay134 (F := F), k0_pay1 (F := F) (iota .tc S520x128 32 [0] iota_S520x128_d0_w32) k0_pay135)

/-- The scratch contents after `n` trips. -/
def scr (x1 : Vec F S520x128 .f32) (x2 : Vec F S1552x128 .f32) : ℕ → Scr F
  | 0 => scr₀
  | n + 1 => if h : n < k0_t1_loop.trips then trip mult ⟨n, h⟩ x1 x2 (scr x1 x2 n) else scr x1 x2 n

/-- The first target row of trip `k`. -/
def v65 (k : Fin k0_t1_loop.trips) : BitVec 32 := Scalar.subi 1033#32 (Scalar.addi 2#32 (Scalar.muli 8#32 (Scf.iv 0#32 1#32 k)))

/-- The word trip `k` computes for its last block's condition. -/
def v94 (k : Fin k0_t1_loop.trips) : BitVec 32 :=
  Scalar.extui (Scalar.andi (Scalar.cmpi .sge (Scalar.addi (Scalar.addi 2#32 (Scalar.muli 8#32 (Scf.iv 0#32 1#32 k))) 6#32) 0#32)
    (Scalar.cmpi .sle (Scalar.addi 2#32 (Scalar.muli 8#32 (Scf.iv 0#32 1#32 k))) 640#32))

/-- The correlation term the body computes from its blocks. -/
def corr (x3 x4 : Vec F S512x128 .f32) : F .f32 :=
  k0_pay133 (View.ld x3 (Rect.unit (s := S512x128) ![0, 0] S512x128.size inb_S512x128_S512x128_0_0))
    (View.ld x4 (Rect.unit (s := S512x128) ![0, 0] S512x128.size inb_S512x128_S512x128_0_0))

/-- The rectangle of a whole scratch buffer places every index where it is, -/
theorem emb_whole₅₂₀ (x : S520x128.Idx) : (Rect.unit (s := S520x128) ![0, 0] S520x128.size inb_S520x128_S520x128_0_0).emb x = x := by
  refine Rect.emb_eq_of_coords _ _ _ fun a => ?_
  fin_cases a <;> (show (x _).val = 0 + 1 * (x _).val) <;> omega

/-- and so holds every index. -/
theorem mem_whole₅₂₀ (y : S520x128.Idx) : y ∈ (Rect.unit (s := S520x128) ![0, 0] S520x128.size inb_S520x128_S520x128_0_0).set := by
  rw [← Rect.map_emb_univ]
  exact Finset.mem_map.mpr ⟨y, Finset.mem_univ _, emb_whole₅₂₀ y⟩

/-- What the body stores in the output block, the last store first: zeros, the correlation, the distances. -/
def pieces (x1 : Vec F S520x128 .f32) (x2 : Vec F S1552x128 .f32) (v34 : F .f32) : List (View.Piece (Elt F) S8x128 .f32) :=
  [⟨Rect.unit (s := S8x128) ![2, 0] S6x128.size inb_S8x128_S6x128_2_0, k0_pay11 (F := F)⟩,
   ⟨Rect.unit (s := S8x128) ![1, 0] S1x128.size inb_S8x128_S1x128_1_0, k0_pay10 v34⟩,
   ⟨Rect.unit (s := S8x128) ![0, 0] S1x128.size inb_S8x128_S1x128_0_0,
    k0_pay9 (View.ld (scr x1 x2 k0_t1_loop.trips).2 (Rect.unit (s := S520x128) ![513, 0] S1x128.size inb_S520x128_S1x128_513_0))⟩]

section
variable (i : grid0.Coords) (arg1 : Memref sig .tc .vmem S520x128 .f32) (harg1 : arg1.IsWhole) (arg2 : Memref sig .tc .vmem S1552x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S8x128 .f32) (harg5 : arg5.IsWhole) (arg6 : Memref sig .tc .vmem S520x128 .f32) (harg6 : arg6.IsWhole) (arg7 : Memref sig .tc .vmem S520x128 .f32) (harg7 : arg7.IsWhole)

set_option maxHeartbeats 1000000 in
/-- One trip takes the scratch contents from `s` to `trip … s`. -/
theorem run_trip (c : Dev nD) (E : Set ℕ) (x1 : Vec F S520x128 .f32) (x2 : Vec F S1552x128 .f32) (k : Fin k0_t1_loop.trips) (cst : F .f32) (s : Scr F) :
    (iprop(owns (c : Thread nD τ) arg1 fullShare x1 ∗ owns (c : Thread nD τ) arg2 fullShare x2 ∗ owns (c : Thread nD τ) arg6 fullShare s.1 ∗ owns (c : Thread nD τ) arg7 fullShare s.2) : sProp 𝕄)
      ⊢ wp frame (wpE (defs₀ (F := F)) Variants.none c none) E (k0_t1_body i arg1 harg1 arg2 harg2 arg3 harg3 arg4 harg4 arg5 harg5 arg6 harg6 arg7 harg7 cst k ⟨⟩)
          (fun _ => iprop(owns (c : Thread nD τ) arg1 fullShare x1 ∗ owns (c : Thread nD τ) arg2 fullShare x2 ∗ owns (c : Thread nD τ) arg6 fullShare (trip cst k x1 x2 s).1 ∗ owns (c : Thread nD τ) arg7 fullShare (trip cst k x1 x2 s).2)) := by
  have hp : ∀ Q : Unit → sProp 𝕄, wp frame (wpE (defs₀ (F := F)) Variants.none c none) E (k0_t1_body i arg1 harg1 arg2 harg2 arg3 harg3 arg4 harg4 arg5 harg5 arg6 harg6 arg7 harg7 cst k ⟨⟩) Q
      = wp frame (wpE (defs₀ (F := F)) Variants.none c none) E
          (prog1 i arg1 harg1 arg2 harg2 arg3 harg3 arg4 harg4 arg5 harg5 arg6 harg6 arg7 harg7 cst k (v65 k) (prog2 i arg1 harg1 arg2 harg2 arg3 harg3 arg4 harg4 arg5 harg5 arg6 harg6 arg7 harg7 cst k (v65 k) (prog3 i arg1 harg1 arg2 harg2 arg3 harg3 arg4 harg4 arg5 harg5 arg6 harg6 arg7 harg7 cst k (v65 k) (prog4 i arg1 harg1 arg2 harg2 arg3 harg3 arg4 harg4 arg5 harg5 arg6 harg6 arg7 harg7 cst k (v65 k) (pure (⟨v65 k, v94 k, 0#32⟩ : Σ' (v65 : BitVec 32) (v94 : BitVec 32), BitVec 32))))))
          (fun a => wp frame (wpE (defs₀ (F := F)) Variants.none c none) E (prog5 i arg1 harg1 arg2 harg2 arg3 harg3 arg4 harg4 arg5 harg5 arg6 harg6 arg7 harg7 cst k a.fst (pure ⟨⟩)) Q) := fun Q => by
    have h4 : k0_part16_skel (F := F) i arg1 harg1 arg2 harg2 arg3 harg3 arg4 harg4 arg5 harg5 arg6 harg6 arg7 harg7 k0_pay4 cst 0#32 1#32 k = prog1 i arg1 harg1 arg2 harg2 arg3 harg3 arg4 harg4 arg5 harg5 arg6 harg6 arg7 harg7 cst k (v65 k) (prog2 i arg1 harg1 arg2 harg2 arg3 harg3 arg4 harg4 arg5 harg5 arg6 harg6 arg7 harg7 cst k (v65 k) (prog3 i arg1 harg1 arg2 harg2 arg3 harg3 arg4 harg4 arg5 harg5 arg6 harg6 arg7 harg7 cst k (v65 k) (prog4 i arg1 harg1 arg2 harg2 arg3 harg3 arg4 harg4 arg5 harg5 arg6 harg6 arg7 harg7 cst k (v65 k) (pure (⟨v65 k, v94 k, 0#32⟩ : Σ' (v65 : BitVec 32) (v94 : BitVec 32), BitVec 32))))) := by
      unfold k0_part16_skel prog1 prog2 prog3 prog4 v65 v94
      dsimp only
    unfold k0_t1_body
    rw [wp_bind, k0_part16_eq_skeleton, h4]
    unfold prog5
    dsimp only
  rw [hp]
  iintro ⟨H1, H2, H6, H7⟩
  iapply (run1 i arg1 harg1 arg2 harg2 arg3 harg3 arg4 harg4 arg5 harg5 arg6 harg6 arg7 harg7 c cst k _ _ E _ x1 x2 s)
  isplitl [H1]; · iexact H1
  isplitl [H2]; · iexact H2
  isplitl [H6]; · iexact H6
  isplitl [H7]; · iexact H7
  iintro ⟨H1, H2, H6, H7⟩
  iapply (run2 i arg1 harg1 arg2 harg2 arg3 harg3 arg4 harg4 arg5 harg5 arg6 harg6 arg7 harg7 c cst k _ _ E _ x1 x2 (blk1 cst k x1 x2 s))
  isplitl [H1]; · iexact H1
  isplitl [H2]; · iexact H2
  isplitl [H6]; · iexact H6
  isplitl [H7]; · iexact H7
  iintro ⟨H1, H2, H6, H7⟩
  iapply (run3 i arg1 harg1 arg2 harg2 arg3 harg3 arg4 harg4 arg5 harg5 arg6 harg6 arg7 harg7 c cst k _ _ E _ x1 x2 (blk2 cst k x1 x2 (blk1 cst k x1 x2 s)))
  isplitl [H1]; · iexact H1
  isplitl [H2]; · iexact H2
  isplitl [H6]; · iexact H6
  isplitl [H7]; · iexact H7
  iintro ⟨H1, H2, H6, H7⟩
  iapply (run4 i arg1 harg1 arg2 harg2 arg3 harg3 arg4 harg4 arg5 harg5 arg6 harg6 arg7 harg7 c cst k _ _ E _ x1 x2 (blk3 cst k x1 x2 (blk2 cst k x1 x2 (blk1 cst k x1 x2 s))))
  isplitl [H1]; · iexact H1
  isplitl [H2]; · iexact H2
  isplitl [H6]; · iexact H6
  isplitl [H7]; · iexact H7
  iintro ⟨H1, H2, H6, H7⟩
  rw [wp_pure]
  imodintro
  iapply (run5 i arg1 harg1 arg2 harg2 arg3 harg3 arg4 harg4 arg5 harg5 arg6 harg6 arg7 harg7 c cst k _ _ E _ x1 x2 (blk4 cst k x1 x2 (blk3 cst k x1 x2 (blk2 cst k x1 x2 (blk1 cst k x1 x2 s)))))
  isplitl [H1]; · iexact H1
  isplitl [H2]; · iexact H2
  isplitl [H6]; · iexact H6
  isplitl [H7]; · iexact H7
  iintro ⟨H1, H2, H6, H7⟩
  rw [wp_pure]
  imodintro
  unfold trip
  isplitl [H1]; · iexact H1
  isplitl [H2]; · iexact H2
  isplitl [H6]; · iexact H6
  iexact H7

/-- What follows the loop: the three stores into the output block. -/
def fin (v34 : F .f32) : Prog (TpuEff nD τ sig (Elt F) Λ₀ .tc) PUnit := do
  let v52 : Vec F S1x128 .f32 ← Prog.lift (.load arg7 (Rect.unit (s := S520x128) ![513, 0] S1x128.size inb_S520x128_S1x128_513_0).toLoadRect (View.loadsAt_vmem h_S1x128))
  let v58 : Vec F S1x128 .f32 ← Prog.lift (.load arg5 (Rect.unit (s := S8x128) ![0, 0] S1x128.size inb_S8x128_S1x128_0_0).toLoadRect (View.loadsAt_vmem h_S1x128))
  Prog.lift (.store arg5 (Rect.unit (s := S8x128) ![0, 0] S1x128.size inb_S8x128_S1x128_0_0) (k0_pay9 v52) Finset.univ (View.stores_vmem_bits_univ h_S1x128 rfl) (.inl rfl))
  let v60 : Vec F S1x128 .f32 ← Prog.lift (.load arg5 (Rect.unit (s := S8x128) ![1, 0] S1x128.size inb_S8x128_S1x128_1_0).toLoadRect (View.loadsAt_vmem h_S1x128))
  Prog.lift (.store arg5 (Rect.unit (s := S8x128) ![1, 0] S1x128.size inb_S8x128_S1x128_1_0) (k0_pay10 v34) Finset.univ (View.stores_vmem_bits_univ h_S1x128 rfl) (.inl rfl))
  let v62 : Vec F S6x128 .f32 ← Prog.lift (.load arg5 (Rect.unit (s := S8x128) ![2, 0] S6x128.size inb_S8x128_S6x128_2_0).toLoadRect (View.loadsAt_vmem h_S6x128))
  Prog.lift (.store arg5 (Rect.unit (s := S8x128) ![2, 0] S6x128.size inb_S8x128_S6x128_2_0) (k0_pay11 (F := F)) Finset.univ (View.stores_vmem_bits_univ h_S6x128 rfl) (.inl rfl))
  pure ⟨⟩

/-- The loop and what follows it. -/
def tail (v34 : F .f32) : Prog (TpuEff nD τ sig (Elt F) Λ₀ .tc) PUnit := do
  Scf.Loop.for k0_t1_loop k0_t1_ok ⟨⟩ (k0_t1_body i arg1 harg1 arg2 harg2 arg3 harg3 arg4 harg4 arg5 harg5 arg6 harg6 arg7 harg7 mult)
  fin arg5 arg7 v34

set_option maxHeartbeats 1000000 in
/-- The loop and what follows it, run: the scratch buffers end at some contents, the output buffer with `pieces` written. -/
theorem run_tail (c : Dev nD) (E : Set ℕ) (K : PUnit → sProp 𝕄) (x1 : Vec F S520x128 .f32) (x2 : Vec F S1552x128 .f32) (v34 : F .f32) :
    iprop(owns (c : Thread nD τ) arg1 fullShare x1 ∗ owns (c : Thread nD τ) arg2 fullShare x2 ∗ owns (c : Thread nD τ) arg6 fullShare (scr₀ (F := F)).1 ∗ owns (c : Thread nD τ) arg7 fullShare (scr₀ (F := F)).2
        ∗ (∃ d, owns (c : Thread nD τ) arg5 fullShare d)
        ∗ (iprop(owns (c : Thread nD τ) arg1 fullShare x1 ∗ owns (c : Thread nD τ) arg2 fullShare x2
            ∗ (∃ f, arg5.view.loc (c : Thread nD τ) ↦[arg5.view.set]{fullShare} arg5.view.writes (Elt F) f (pieces x1 x2 v34))
            ∗ (∃ d, owns (c : Thread nD τ) arg6 fullShare d) ∗ (∃ d, owns (c : Thread nD τ) arg7 fullShare d)) -∗ K ⟨⟩))
      ⊢ wp frame (wpE (defs₀ (F := F)) Variants.none c none) E (tail (F := F) i arg1 harg1 arg2 harg2 arg3 harg3 arg4 harg4 arg5 harg5 arg6 harg6 arg7 harg7 v34) K := by
  unfold tail
  rw [wp_bind]
  iintro ⟨H1, H2, H6, H7, H5, Hk⟩
  iapply (Scf.wp_for _ _ E _ _ _ k0_t1_ok PUnit.unit (k0_t1_body i arg1 harg1 arg2 harg2 arg3 harg3 arg4 harg4 arg5 harg5 arg6 harg6 arg7 harg7 mult)
    (fun n _ => iprop(owns (c : Thread nD τ) arg1 fullShare x1 ∗ owns (c : Thread nD τ) arg2 fullShare x2 ∗ owns (c : Thread nD τ) arg6 fullShare (scr x1 x2 n).1 ∗ owns (c : Thread nD τ) arg7 fullShare (scr x1 x2 n).2))
    (fun k _ => by
      have h : scr x1 x2 (k.val + 1) = trip (mult (F := F)) k x1 x2 (scr x1 x2 k.val) := dif_pos k.isLt
      rw [h]
      exact run_trip i arg1 harg1 arg2 harg2 arg3 harg3 arg4 harg4 arg5 harg5 arg6 harg6 arg7 harg7 c E x1 x2 k mult _))
  isplitl [H1 H2 H6 H7]
  · isplitl [H1]; · iexact H1
    isplitl [H2]; · iexact H2
    isplitl [H6]; · iexact H6
    iexact H7
  iintro %u ⟨H1, H2, H6, H7⟩
  unfold fin owns
  icases H7 with ⟨%f7, %hf7, H7⟩
  icases H5 with ⟨%d5, %f5, %hf5, H5⟩
  sl_exec
  sl_step
  iapply Hk
  isplitl [H1]; · iexact H1
  isplitl [H2]; · iexact H2
  isplitl [H5]
  · iexists f5
    unfold pieces
    have hf7' : View.read (Elt F) arg7.view f7 = (scr x1 x2 k0_t1_loop.trips).2 := hf7
    rw [← hf7']
    iexact H5
  isplitl [H6]
  · iexists _; iexact H6
  iexists _, _; isplitr; swap; · iexact H7
  ipureintro; rfl

set_option maxHeartbeats 1000000 in
/-- The body on whole staging memrefs, the inputs' at their contents and the others' at anything: it returns the inputs'
    as they were, the scratch at some contents, the output's buffer with `pieces` written. -/
theorem kernelRun (c : Dev nD) (E : Set ℕ) (K : PUnit → sProp 𝕄) (x1 : Vec F S520x128 .f32) (x2 : Vec F S1552x128 .f32) (x3 x4 : Vec F S512x128 .f32) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ (∃ f, arg5.view.loc (c : Thread nD τ) ↦[arg5.view.set]{fullShare} arg5.view.writes (Elt F) f (pieces x1 x2 (corr x3 x4)))
            ∗ (∃ d, owns (c : Thread nD τ) arg6 fullShare d) ∗ (∃ d, owns (c : Thread nD τ) arg7 fullShare d)) -∗ K ⟨⟩))
      ⊢ wp frame (wpE (defs₀ (F := F)) Variants.none c none) E (cc0__loss_kernel i arg1 harg1 arg2 harg2 arg3 harg3 arg4 harg4 arg5 harg5 arg6 harg6 arg7 harg7) K := by
  rw [cc0__loss_kernel_eq_skeleton]
  have hp : cc0__loss_kernel_skel (F := F) i arg1 harg1 arg2 harg2 arg3 harg3 arg4 harg4 arg5 harg5 arg6 harg6 arg7 harg7 = (do
      let ⟨v34, v35, v40⟩ : Σ' (v34 : F .f32) (v35 : IVec S520x128 32), IVec S520x128 32 ← k0_part17 i arg1 harg1 arg2 harg2 arg3 harg3 arg4 harg4 arg5 harg5 arg6 harg6 arg7 harg7
      let v45 : Vec F S520x128 .f32 ← Prog.lift (.load arg7 (Rect.unit (s := S520x128) ![0, 0] S520x128.size inb_S520x128_S520x128_0_0).toLoadRect (View.loadsAt_vmem h_S520x128))
      Prog.lift (.store arg7 (Rect.unit (s := S520x128) ![0, 0] S520x128.size inb_S520x128_S520x128_0_0) (k0_pay1 (F := F) v35 v40) Finset.univ (View.stores_vmem_bits_univ h_S520x128 rfl) (.inl rfl))
      tail i arg1 harg1 arg2 harg2 arg3 harg3 arg4 harg4 arg5 harg5 arg6 harg6 arg7 harg7 v34) := rfl
  rw [hp]
  have ht : ∀ v34, iprop(owns (c : Thread nD τ) arg1 fullShare x1 ∗ owns (c : Thread nD τ) arg2 fullShare x2 ∗ owns (c : Thread nD τ) arg6 fullShare (scr₀ (F := F)).1 ∗ owns (c : Thread nD τ) arg7 fullShare (scr₀ (F := F)).2
        ∗ (∃ d, owns (c : Thread nD τ) arg5 fullShare d)
        ∗ (iprop(owns (c : Thread nD τ) arg1 fullShare x1 ∗ owns (c : Thread nD τ) arg2 fullShare x2
            ∗ (∃ f, arg5.view.loc (c : Thread nD τ) ↦[arg5.view.set]{fullShare} arg5.view.writes (Elt F) f (pieces x1 x2 v34))
            ∗ (∃ d, owns (c : Thread nD τ) arg6 fullShare d) ∗ (∃ d, owns (c : Thread nD τ) arg7 fullShare d)) -∗ K ⟨⟩))
      ⊢ wp frame (wpE (defs₀ (F := F)) Variants.none c none) E (tail (F := F) i arg1 harg1 arg2 harg2 arg3 harg3 arg4 harg4 arg5 harg5 arg6 harg6 arg7 harg7 v34) K :=
    fun v34 => run_tail i arg1 harg1 arg2 harg2 arg3 harg3 arg4 harg4 arg5 harg5 arg6 harg6 arg7 harg7 c E K x1 x2 v34
  generalize tail (F := F) i arg1 harg1 arg2 harg2 arg3 harg3 arg4 harg4 arg5 harg5 arg6 harg6 arg7 harg7 = tl at ht ⊢
  simp only [k0_part17_eq_skeleton]
  unfold k0_part17_skel owns
  iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, Hk⟩
  sl_exec
  subst hf1 hf2 hf3 hf4
  dsimp only [View.readAt_eq_ld]
  iapply (ht (corr (arg3.view.read (Elt F) f3) (arg4.view.read (Elt F) f4)))
  unfold owns
  isplitl [H1]
  · iexists _; isplitr; swap; · iexact H1
    ipureintro; rfl
  isplitl [H2]
  · iexists _; isplitr; swap; · iexact H2
    ipureintro; rfl
  isplitl [H6]
  · iexists _; isplitr; swap; · iexact H6
    ipureintro
    exact (read_writes_put _ _ _ _).trans (put_whole _ _ _ _ mem_whole₅₂₀ fun x => congrArg _ (emb_whole₅₂₀ x).symm)
  isplitl [H7]
  · iexists _; isplitr; swap; · iexact H7
    ipureintro
    exact (read_writes_put _ _ _ _).trans (put_whole _ _ _ _ mem_whole₅₂₀ fun x => congrArg _ (emb_whole₅₂₀ x).symm)
  isplitl [H5]
  · iexists _, _; isplitr; swap; · iexact H5
    ipureintro; rfl
  iintro ⟨⟨%g1, %hg1, H1⟩, ⟨%g2, %hg2, H2⟩, H5, H6, H7⟩
  iapply Hk
  isplitl [H1]
  · iexists _; isplitr; swap; · iexact H1
    ipureintro; exact hg1
  isplitl [H2]
  · iexists _; isplitr; swap; · iexact H2
    ipureintro; exact hg2
  isplitl [H3]
  · iexists _; isplitr; swap; · iexact H3
    ipureintro; rfl
  isplitl [H4]
  · iexists _; isplitr; swap; · iexact H4
    ipureintro; rfl
  isplitl [H5]; · iexact H5
  isplitl [H6]; · iexact H6
  iexact H7

end

end Cert.KernelIdeal.Gen

end
-- ==== Proof.Ideal.Launch.lean ====
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

/-! The launch: @main around the kernel's region, what the region finds in each buffer, the windows' blocks, and the frame
from a run of the region. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 210000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

/-! ## The memrefs the body is run on -/

/-- One staging buffer of output window 4, through which its contents are stated. -/
abbrev VO0_4 : View sig .tc .vmem S8x128 .f32 := (Memref.whole cc0_stg4_0 : Memref sig .tc .vmem S8x128 .f32).view
/-- Each window's current staging memref at point `t`, spelled as the pipeline passes it (`bodyAt0`), and its wholeness. -/
abbrev ms0_0 (t : Fin cfg0.N) : Memref sig .tc .vmem S520x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1552x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S520x128 .f32 := Memref.whole cc0_scratch0
abbrev scM0_1 : Memref sig .tc .vmem S520x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Ideal.Frame.lean ====
module

public import proofs.«01_k».proof.Proof.Ideal.Body
public import proofs.«01_k».proof.Proof.Ideal.Launch
public import Idealize.ShloMosaic.Lib.Claim

/-! The run of the whole program: what the output window holds after the body, the body's obligation, the launch, and the
frame claim. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The body's three stores cover the output block: cut into blocks of one row they tile it. -/
theorem pieces_cover (x1 : Vec F S520x128 .f32) (x2 : Vec F S1552x128 .f32) (v34 : F .f32) (y : S8x128.Idx) :
    ∃ pc ∈ pieces x1 x2 v34, y ∈ pc.1.set :=
  View.cover_of_tiledBy (pieces x1 x2 v34) ![1, 128] (by sl_kernel_rfl) y

/-- What the body leaves in the output's staging buffer: its stores read back. -/
def outBlock (x1 : Vec F S520x128 .f32) (x2 : Vec F S1552x128 .f32) (x3 x4 : Vec F S512x128 .f32) : Vec F S8x128 .f32 :=
  VO0_4.read (Elt F) (VO0_4.writes (Elt F) VO0_4.junk (pieces x1 x2 (corr x3 x4)))

/-! ## What the outputs hold after each point -/

/-- What the output's staging buffer holds after the body at point `t`. -/
def outsAt0 (c : Dev nD) (t : Fin cfg0.N) : Vec F S8x128 .f32 :=
  outBlock (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold outBlock
  iintro ⟨⟨⟨HS0, HS1⟩, Hg⟩, Ho, ⟨%d0, H0⟩, ⟨%d1, H1⟩, ⟨%d2, H2⟩, ⟨%d3, H3⟩, ⟨%d4, H4⟩⟩
  iapply (kernelRun (grid0.coords t) _ (hs0_0 t) _ (hs0_1 t) _ (hs0_2 t) _ (hs0_3 t) _ (hs0_4 t) _ (Memref.isWhole_whole _) _ (Memref.isWhole_whole _) c Set.univ _ (iblk m c 0 t) (iblk m c 1 t) (iblk m c 2 t) (iblk m c 3 t))
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (pieces_cover _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: every argument array ends as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.Reference.Frame.lean ====
module

public import proofs.«01_k».proof.Proof.Gen.ReferenceIdeal.Run
public import Idealize.ShloMosaic.Lib.Quiescent

@[expose] public section

noncomputable section

namespace Cert.ReferenceIdeal.Value

open Idealize.ShloMosaic Idealize.SL.Sem

variable {F : FTy → Type} [FloatOps F]

/-- The reference runs, its two arguments end as they began, and every semaphore counter ends at zero: the program
    declares no semaphore. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

end Cert.ReferenceIdeal.Value

end
-- ==== Proof.Table.lean ====
module

public import Idealize.ShloMosaic.PureOps.Ideal

/-! The soft-DTW table in the kernel's scaling (`-10` times the distance), cell by cell, and its anti-diagonals with
the rows shifted down by eight. -/

@[expose] public section

noncomputable section

namespace Cert

open Idealize.ShloMosaic

/-- One cell from its three neighbours `x` (above), `p` (left), `q` (above left) and the scaled difference `u`. -/
def cellv (x p q u : EReal) : EReal :=
  max (max x p) q + Ideal.log (Ideal.exp (x - max (max x p) q) + Ideal.exp (p - max (max x p) q) + Ideal.exp (q - max (max x p) q))
    - u * u

/-- A cell whose neighbours are all `⊥` is `⊥`. -/
theorem cellv_bot (u : EReal) : cellv ⊥ ⊥ ⊥ u = ⊥ := by
  unfold cellv
  rw [max_self, max_self, EReal.bot_add]
  rw [sub_eq_add_neg, EReal.bot_add]

variable (s : EReal) (p t : ℕ → EReal)

/-- The table's cell in row `i` and column `j`, of the series `p` and `t`, both scaled by `s`. -/
def tab : ℕ → ℕ → EReal
  | 0, 0 => 0
  | 0, _ + 1 => ⊥
  | _ + 1, 0 => ⊥
  | i + 1, j + 1 => cellv (tab i (j + 1)) (tab (i + 1) j) (tab i j) (p i * s - t j * s)
termination_by i j => i + j

theorem tab_zero : tab s p t 0 0 = 0 := by rw [tab]
theorem tab_top {j : ℕ} (h : 0 < j) : tab s p t 0 j = ⊥ := by
  obtain ⟨j, rfl⟩ := Nat.exists_eq_succ_of_ne_zero h.ne'
  rw [tab]
theorem tab_left {i : ℕ} (h : 0 < i) : tab s p t i 0 = ⊥ := by
  obtain ⟨i, rfl⟩ := Nat.exists_eq_succ_of_ne_zero h.ne'
  rw [tab]
theorem tab_cell (i j : ℕ) : tab s p t (i + 1) (j + 1)
    = cellv (tab s p t i (j + 1)) (tab s p t (i + 1) j) (tab s p t i j) (p i * s - t j * s) := by rw [tab]

/-- Anti-diagonal `d` of the table at shifted row `q`: the cell in row `q - 8` and column `d - (q - 8)`, `⊥` outside. -/
def diag (d q : ℕ) : EReal :=
  if q < 8 then ⊥ else if d < q - 8 then ⊥ else tab s p t (q - 8) (d - (q - 8))

theorem diag_low {d q : ℕ} (h : q < 8) : diag s p t d q = ⊥ := if_pos h
theorem diag_out {d q : ℕ} (h : d < q - 8) : diag s p t d q = ⊥ := by
  unfold diag; split_ifs <;> rfl
theorem diag_in {d i : ℕ} (h : i ≤ d) : diag s p t d (i + 8) = tab s p t i (d - i) := by
  unfold diag
  rw [if_neg (by omega), if_neg (by omega), show i + 8 - 8 = i by omega]

/-- The diagonal's cell on the table's left edge or beyond it is `⊥`. -/
theorem diag_edge {d q : ℕ} (hq : 9 ≤ q) (h : d + 8 ≤ q) : diag s p t d q = ⊥ := by
  obtain ⟨i, rfl⟩ : ∃ i, q = i + 8 := ⟨q - 8, by omega⟩
  rcases Nat.lt_or_ge d i with h' | h'
  · exact diag_out s p t (by omega)
  · rw [diag_in s p t h', show d - i = 0 by omega, tab_left s p t (by omega)]

/-- A diagonal from the two before it. -/
theorem diag_succ {d q : ℕ} (hd : 1 ≤ d) (hq : 1 ≤ q) (u : EReal)
    (hu : ∀ i j, q = i + 9 → d = i + j + 1 → u = p i * s - t j * s) :
    diag s p t (d + 1) q = cellv (diag s p t d (q - 1)) (diag s p t d q) (diag s p t (d - 1) (q - 1)) u := by
  rcases Nat.lt_or_ge q 8 with h | h
  · rw [diag_low s p t h, diag_low s p t h, diag_low s p t (by omega), diag_low s p t (by omega), cellv_bot]
  rcases Nat.lt_or_ge q 9 with h9 | h9
  · obtain rfl : q = 8 := by omega
    have e : ∀ {d : ℕ}, 1 ≤ d → diag s p t d 8 = ⊥ := fun hd => by
      rw [diag_in s p t (i := 0) (by omega), tab_top s p t (by omega)]
    rw [e (by omega), e hd, diag_low s p t (by omega), diag_low s p t (by omega), cellv_bot]
  obtain ⟨i, rfl⟩ : ∃ i, q = i + 9 := ⟨q - 9, by omega⟩
  rcases Nat.lt_or_ge i d with hi | hi
  · obtain ⟨j, rfl⟩ : ∃ j, d = i + j + 1 := ⟨d - i - 1, by omega⟩
    rw [hu i j rfl rfl, show i + 9 = (i + 1) + 8 by omega, diag_in s p t (by omega),
      show i + j + 1 + 1 - (i + 1) = j + 1 by omega, tab_cell, show i + 1 + 8 - 1 = i + 8 by omega,
      diag_in s p t (by omega), diag_in s p t (by omega), diag_in s p t (by omega),
      show i + j + 1 - i = j + 1 by omega, show i + j + 1 - (i + 1) = j by omega, show i + j + 1 - 1 - i = j by omega]
  · rw [diag_edge s p t (by omega) (by omega), diag_edge s p t (q := i + 9) (by omega) (by omega)]
    rw [show diag s p t d (i + 9 - 1) = ⊥ from diag_edge s p t (by omega) (by omega),
      show diag s p t (d - 1) (i + 9 - 1) = ⊥ from diag_edge s p t (by omega) (by omega), cellv_bot]

end Cert

end
-- ==== Proof.Cell.lean ====
module

public import proofs.«01_k».proof.Proof.Table

/-! The soft-DTW table in the reference's scaling, and that the kernel's table is `-10` times it. -/

@[expose] public section

noncomputable section

namespace Cert

open Idealize.ShloMosaic

/-- The shift a log-sum-exp subtracts: the largest entry where it is finite, zero where it is not. -/
def shift (w : EReal) : EReal := if ⊥ < w ∧ w < ⊤ then w else 0

/-- The soft minimum with temperature `g` of three values. -/
def softMin (g x p q : EReal) : EReal :=
  -g * (Ideal.log (Ideal.exp (Ideal.div (-x) g - shift (max (max (Ideal.div (-x) g) (Ideal.div (-p) g)) (Ideal.div (-q) g)))
      + Ideal.exp (Ideal.div (-p) g - shift (max (max (Ideal.div (-x) g) (Ideal.div (-p) g)) (Ideal.div (-q) g)))
      + Ideal.exp (Ideal.div (-q) g - shift (max (max (Ideal.div (-x) g) (Ideal.div (-p) g)) (Ideal.div (-q) g))))
    + shift (max (max (Ideal.div (-x) g) (Ideal.div (-p) g)) (Ideal.div (-q) g)))

/-- The soft-DTW table of two series: squared distance plus the soft minimum of the three neighbours. -/
def soft (g : EReal) (p t : ℕ → EReal) : ℕ → ℕ → EReal
  | 0, 0 => 0
  | 0, _ + 1 => ⊤
  | _ + 1, 0 => ⊤
  | i + 1, j + 1 => (p i - t j) * (p i - t j)
      + softMin g (soft g p t i (j + 1)) (soft g p t (i + 1) j) (soft g p t i j)
termination_by i j => i + j

theorem soft_zero (g : EReal) (p t : ℕ → EReal) : soft g p t 0 0 = 0 := by rw [soft]
theorem soft_top (g : EReal) (p t : ℕ → EReal) {j : ℕ} (h : 0 < j) : soft g p t 0 j = ⊤ := by
  obtain ⟨j, rfl⟩ := Nat.exists_eq_succ_of_ne_zero h.ne'
  rw [soft]
theorem soft_left (g : EReal) (p t : ℕ → EReal) {i : ℕ} (h : 0 < i) : soft g p t i 0 = ⊤ := by
  obtain ⟨i, rfl⟩ := Nat.exists_eq_succ_of_ne_zero h.ne'
  rw [soft]
theorem soft_cell (g : EReal) (p t : ℕ → EReal) (i j : ℕ) : soft g p t (i + 1) (j + 1)
    = (p i - t j) * (p i - t j)
      + softMin g (soft g p t i (j + 1)) (soft g p t (i + 1) j) (soft g p t i j) := by rw [soft]

/-- The temperature. -/
abbrev tenth : EReal := ((1 / 10 : ℝ) : EReal)

theorem div_tenth (x : EReal) : Ideal.div x tenth = x * ((10 : ℝ) : EReal) := by
  unfold Ideal.div tenth
  rw [if_neg (by rw [← EReal.coe_zero, EReal.coe_eq_coe_iff]; norm_num), ← EReal.coe_inv]
  norm_num

/-- `a` is `-10` times `r`, which is not `⊥`. -/
def Rel (a r : EReal) : Prop := r ≠ ⊥ ∧ a = -r * ((10 : ℝ) : EReal)

theorem Rel.ne_top {a r : EReal} (h : Rel a r) : a ≠ ⊤ := by
  obtain ⟨h1, rfl⟩ := h
  induction r with
  | bot => exact absurd rfl h1
  | top => rw [EReal.neg_top, EReal.bot_mul_coe_of_pos (by norm_num)]; exact bot_ne_top
  | coe r => rw [← EReal.coe_neg, ← EReal.coe_mul]; exact EReal.coe_ne_top _

theorem rel_zero : Rel 0 0 := ⟨EReal.zero_ne_bot, by rw [neg_zero, zero_mul]⟩
theorem rel_bot : Rel ⊥ ⊤ := ⟨top_ne_bot, by rw [EReal.neg_top, EReal.bot_mul_coe_of_pos (by norm_num)]⟩

/-- The exponential of a value not above `μ`, less `μ`, is a real between 0 and 1. -/
theorem exp_sub_coe {x : EReal} (hx : x ≠ ⊤) (μ : ℝ) : ∃ e : ℝ, 0 ≤ e ∧ Ideal.exp (x - (μ : EReal)) = (e : EReal) := by
  induction x with
  | bot => exact ⟨0, le_refl _, by rw [sub_eq_add_neg, EReal.bot_add]; rfl⟩
  | top => exact absurd rfl hx
  | coe r => exact ⟨Real.exp (r - μ), (Real.exp_pos _).le, by rw [← EReal.coe_sub]; rfl⟩

theorem exp_self_sub (μ : ℝ) : Ideal.exp ((μ : EReal) - (μ : EReal)) = ((1 : ℝ) : EReal) := by
  rw [← EReal.coe_sub, sub_self, ← Real.exp_zero]; rfl

theorem exp_sub_pos {x : EReal} (μ : ℝ) (h : x = (μ : EReal)) {e : ℝ} (he : Ideal.exp (x - (μ : EReal)) = (e : EReal)) : 0 < e := by
  rw [h, exp_self_sub, EReal.coe_eq_coe_iff] at he
  rw [← he]; norm_num

/-- The log-sum-exp of three values whose largest is finite is finite. -/
theorem lse_coe {x p q : EReal} (hx : x ≠ ⊤) (hp : p ≠ ⊤) (hq : q ≠ ⊤) (μ : ℝ) (hμ : max (max x p) q = (μ : EReal)) :
    ∃ L : ℝ, Ideal.log (Ideal.exp (x - (μ : EReal)) + Ideal.exp (p - (μ : EReal)) + Ideal.exp (q - (μ : EReal))) = (L : EReal) := by
  obtain ⟨a, ha, ea⟩ := exp_sub_coe hx μ
  obtain ⟨b, hb, eb⟩ := exp_sub_coe hp μ
  obtain ⟨c, hc, ec⟩ := exp_sub_coe hq μ
  have hpos : 0 < a + b + c := by
    rcases max_choice (max x p) q with h | h
    · rcases max_choice x p with h' | h'
      · have := exp_sub_pos μ (by rw [← hμ, h, h']) ea
        linarith
      · have := exp_sub_pos μ (by rw [← hμ, h, h']) eb
        linarith
    · have := exp_sub_pos μ (by rw [← hμ, h]) ec
      linarith
  rw [ea, eb, ec, ← EReal.coe_add, ← EReal.coe_add]
  exact ⟨Real.log (a + b + c), by rw [show Ideal.log ((a + b + c : ℝ) : EReal) = if a + b + c ≤ 0 then ⊥ else (Real.log (a + b + c) : EReal) from rfl, if_neg (not_le.mpr hpos)]⟩

/-- The scaled difference is the difference, scaled. -/
theorem scaled_sub (p t : EReal) {s : ℝ} (hs : 0 < s) : p * (s : EReal) - t * (s : EReal) = (p - t) * (s : EReal) := by
  induction p <;> induction t <;>
    simp only [EReal.bot_mul_coe_of_pos hs, EReal.top_mul_coe_of_pos hs, ← EReal.coe_mul, ← EReal.coe_sub, sub_eq_add_neg,
      EReal.neg_bot, EReal.neg_top, EReal.bot_add, EReal.add_bot, EReal.top_add_coe, EReal.coe_add_top, EReal.top_add_top,
      ← EReal.coe_neg, ← EReal.coe_add, EReal.bot_mul_coe_of_pos hs, EReal.top_mul_coe_of_pos hs] <;> ring_nf

theorem sq_cases (d : EReal) : d * d = ⊤ ∨ ∃ r : ℝ, d = (r : EReal) := by
  induction d with
  | bot => exact Or.inl EReal.bot_mul_bot
  | top => exact Or.inl EReal.top_mul_top
  | coe r => exact Or.inr ⟨r, rfl⟩

theorem sq_scaled (d : EReal) : (d * ((Real.sqrt 10 : ℝ) : EReal)) * (d * ((Real.sqrt 10 : ℝ) : EReal)) = d * d * ((10 : ℝ) : EReal) := by
  rw [mul_mul_mul_comm, ← EReal.coe_mul, Real.mul_self_sqrt (by norm_num)]

/-- One cell: from neighbours in relation, results in relation. -/
theorem rel_cell {x p q r₁ r₂ r₃ : EReal} (h₁ : Rel x r₁) (h₂ : Rel p r₂) (h₃ : Rel q r₃) (a b : EReal) :
    Rel (cellv x p q (a * ((Real.sqrt 10 : ℝ) : EReal) - b * ((Real.sqrt 10 : ℝ) : EReal)))
      ((a - b) * (a - b) + softMin tenth r₁ r₂ r₃) := by
  have hx := h₁.ne_top
  have hp := h₂.ne_top
  have hq := h₃.ne_top
  unfold cellv softMin
  rw [div_tenth, div_tenth, div_tenth, ← h₁.2, ← h₂.2, ← h₃.2, scaled_sub a b (Real.sqrt_pos.mpr (by norm_num)), sq_scaled]
  have hm : max (max x p) q ≠ ⊤ := by
    rcases max_choice (max x p) q with h | h
    · rcases max_choice x p with h' | h' <;> rw [h, h'] <;> assumption
    · rw [h]; exact hq
  generalize hm' : max (max x p) q = m at hm
  induction m with
  | top => exact absurd rfl hm
  | bot =>
    have hs : shift ⊥ = 0 := by unfold shift; rw [if_neg (fun h => lt_irrefl _ h.1)]
    obtain ⟨hxp, rfl⟩ := max_eq_bot.mp hm'
    obtain ⟨rfl, rfl⟩ := max_eq_bot.mp hxp
    rw [hs, EReal.bot_add, sub_eq_add_neg ⊥ ((a - b) * (a - b) * _), EReal.bot_add, sub_eq_add_neg ⊥ (0 : EReal), EReal.bot_add]
    have e0 : Ideal.log (Ideal.exp ⊥ + Ideal.exp ⊥ + Ideal.exp ⊥) = ⊥ := by
      rw [show Ideal.exp ⊥ = 0 from rfl, add_zero, add_zero]
      show (if (0:ℝ) ≤ 0 then (⊥ : EReal) else _) = ⊥
      rw [if_pos (le_refl _)]
    rw [e0, EReal.bot_add, ← EReal.coe_neg, EReal.coe_mul_bot_of_neg (by norm_num)]
    have : (a - b) * (a - b) ≠ ⊥ := by
      rcases sq_cases (a - b) with h | ⟨r, h⟩
      · rw [h]; exact top_ne_bot
      · rw [h, ← EReal.coe_mul]; exact EReal.coe_ne_bot _
    rw [EReal.add_top_of_ne_bot this]
    exact rel_bot
  | coe μ =>
    have hs : shift (μ : EReal) = (μ : EReal) := by
      unfold shift; rw [if_pos ⟨EReal.bot_lt_coe _, EReal.coe_lt_top _⟩]
    rw [hs]
    obtain ⟨L, hL⟩ := lse_coe hx hp hq μ hm'
    rw [hL, ← EReal.coe_add, ← EReal.coe_add, ← EReal.coe_neg, ← EReal.coe_mul]
    rcases sq_cases (a - b) with h | ⟨r, h⟩
    · rw [h, EReal.top_mul_coe_of_pos (by norm_num), EReal.top_add_coe, sub_eq_add_neg, EReal.neg_top, EReal.add_bot]
      exact rel_bot
    · rw [h, ← EReal.coe_mul, ← EReal.coe_add, ← EReal.coe_mul, ← EReal.coe_sub]
      refine ⟨EReal.coe_ne_bot _, ?_⟩
      rw [← EReal.coe_neg, ← EReal.coe_mul, EReal.coe_eq_coe_iff]
      ring

/-- The whole table. -/
theorem rel_tab (p t : ℕ → EReal) : ∀ n i j : ℕ, i + j = n → Rel (tab ((Real.sqrt 10 : ℝ) : EReal) p t i j) (soft tenth p t i j) := by
  intro n
  induction n using Nat.strong_induction_on with
  | _ n ih =>
    intro i j hn
    rcases Nat.eq_zero_or_pos i with rfl | hi
    · rcases Nat.eq_zero_or_pos j with rfl | hj
      · rw [tab_zero, soft_zero]; exact rel_zero
      · rw [tab_top _ _ _ hj, soft_top _ _ _ hj]; exact rel_bot
    rcases Nat.eq_zero_or_pos j with rfl | hj
    · rw [tab_left _ _ _ hi, soft_left _ _ _ hi]; exact rel_bot
    obtain ⟨i, rfl⟩ := Nat.exists_eq_succ_of_ne_zero hi.ne'
    obtain ⟨j, rfl⟩ := Nat.exists_eq_succ_of_ne_zero hj.ne'
    rw [Nat.succ_eq_add_one, Nat.succ_eq_add_one] at *
    rw [tab_cell, soft_cell]
    exact rel_cell (ih (i + (j + 1)) (by omega) _ _ rfl) (ih (i + 1 + j) (by omega) _ _ rfl) (ih (i + j) (by omega) _ _ rfl) _ _

/-- A finite sum of values in relation is in relation. -/
theorem rel_sum {ι : Type} (S : Finset ι) (a r : ι → EReal) (h : ∀ i ∈ S, Rel (a i) (r i)) : Rel (∑ i ∈ S, a i) (∑ i ∈ S, r i) := by
  classical
  induction S using Finset.induction_on with
  | empty => rw [Finset.sum_empty, Finset.sum_empty]; exact rel_zero
  | insert i S hi ih =>
    rw [Finset.sum_insert hi, Finset.sum_insert hi]
    obtain ⟨h1, e1⟩ := h i (Finset.mem_insert_self _ _)
    obtain ⟨h2, e2⟩ := ih fun j hj => h j (Finset.mem_insert_of_mem hj)
    generalize r i = x at h1 e1 ⊢
    generalize ∑ i ∈ S, r i = y at h2 e2 ⊢
    rw [e1, e2]
    induction x with
    | bot => exact absurd rfl h1
    | top =>
      rw [EReal.top_add_of_ne_bot h2, EReal.neg_top, EReal.bot_mul_coe_of_pos (by norm_num), EReal.bot_add]; exact rel_bot
    | coe x =>
      induction y with
      | bot => exact absurd rfl h2
      | top => rw [EReal.coe_add_top, EReal.neg_top, EReal.bot_mul_coe_of_pos (by norm_num), EReal.add_bot]; exact rel_bot
      | coe y =>
        rw [← EReal.coe_add, ← EReal.coe_neg, ← EReal.coe_neg, ← EReal.coe_mul, ← EReal.coe_mul, ← EReal.coe_add]
        refine ⟨EReal.coe_ne_bot _, ?_⟩
        rw [← EReal.coe_neg, ← EReal.coe_mul, EReal.coe_eq_coe_iff]
        ring

/-- The mean of the distances, from the scaled ones. -/
theorem rel_mean {a r : EReal} (h : Rel a r) : Ideal.div (-a) ((2560 : ℝ) : EReal) = Ideal.div r ((256 : ℝ) : EReal) := by
  obtain ⟨h1, rfl⟩ := h
  unfold Ideal.div
  rw [if_neg (by rw [← EReal.coe_zero, EReal.coe_eq_coe_iff]; norm_num), if_neg (by rw [← EReal.coe_zero, EReal.coe_eq_coe_iff]; norm_num),
    ← EReal.coe_inv, ← EReal.coe_inv]
  induction r with
  | bot => exact absurd rfl h1
  | top =>
    rw [EReal.neg_top, EReal.bot_mul_coe_of_pos (by norm_num), EReal.neg_bot, EReal.top_mul_coe_of_pos (by norm_num), EReal.top_mul_coe_of_pos (by norm_num)]
  | coe r =>
    rw [← EReal.coe_neg, ← EReal.coe_mul, ← EReal.coe_neg, ← EReal.coe_mul, ← EReal.coe_mul, EReal.coe_eq_coe_iff]
    ring

end Cert

end
-- ==== Proof.Loss.lean ====
module

public import proofs.«01_k».proof.Proof.Cell

/-! The loss of 256 pairs of series of 512 points: what both programs leave in their result. -/

@[expose] public section

noncomputable section

namespace Cert

open Idealize.ShloMosaic

/-- A series over the natural numbers, zero past its end. -/
def ext (x : Fin 512 → EReal) (i : ℕ) : EReal := if h : i < 512 then x ⟨i, h⟩ else 0

theorem ext_of (x : Fin 512 → EReal) (i : Fin 512) : ext x i.val = x i := dif_pos i.isLt
theorem ext_lt (x : Fin 512 → EReal) {i : ℕ} (h : i < 512) : ext x i = x ⟨i, h⟩ := dif_pos h

/-- A series less its mean. -/
def centre (x : Fin 512 → EReal) (i : Fin 512) : EReal := x i - Ideal.div (∑ j, x j) (Ideal.ofBits .f32 0x44000000#32)

/-- The Pearson correlation of two series, its denominator kept away from zero. -/
def pears (x y : Fin 512 → EReal) : EReal :=
  Ideal.div (∑ i, centre x i * centre y i)
    (max (Ideal.sqrt (∑ i, centre x i * centre x i) * Ideal.sqrt (∑ i, centre y i * centre y i)) (Ideal.ofBits .f32 0x322BCC77#32))

/-- The loss from the summed distances' mean and the summed correlations. -/
def blend (d c : EReal) : EReal :=
  Ideal.ofBits .f32 0x3E99999A#32 * d
    + Ideal.ofBits .f32 0x3F333333#32 * (Ideal.ofBits .f32 0x3F800000#32 - Ideal.div c (Ideal.ofBits .f32 0x43800000#32))

/-- The loss of the pairs `(P b, T b)`. -/
def loss (P T : Fin 256 → Fin 512 → EReal) : EReal :=
  blend (Ideal.div (∑ b, soft tenth (ext (P b)) (ext (T b)) 512 512) (Ideal.ofBits .f32 0x43800000#32)) (∑ b, pears (P b) (T b))

theorem word_256 : (Ideal.ofBits .f32 0x43800000#32 : EReal) = ((256 : ℝ) : EReal) := by
  simp [Ideal.ofBits, Ideal.ieee]; rw [← EReal.coe_mul]; norm_num
theorem word_2560 : (Ideal.ofBits .f32 0x45200000#32 : EReal) = ((2560 : ℝ) : EReal) := by
  simp [Ideal.ofBits, Ideal.ieee]; rw [← EReal.coe_mul]; norm_num
theorem word_512 : (Ideal.ofBits .f32 0x44000000#32 : EReal) = ((512 : ℝ) : EReal) := by
  simp [Ideal.ofBits, Ideal.ieee]; rw [← EReal.coe_mul]; norm_num
theorem word_512th : (Ideal.ofBits .f32 0x3B000000#32 : EReal) = ((1 / 512 : ℝ) : EReal) := by
  simp [Ideal.ofBits, Ideal.ieee]; rw [← EReal.coe_mul]; norm_num
theorem word_1 : (Ideal.ofBits .f32 0x3F800000#32 : EReal) = ((1 : ℝ) : EReal) := by
  simp [Ideal.ofBits, Ideal.ieee]; rw [← EReal.coe_mul]; norm_num
theorem word_10 : (Ideal.ofBits .f32 0x41200000#32 : EReal) = ((10 : ℝ) : EReal) := by
  simp [Ideal.ofBits, Ideal.ieee]; rw [← EReal.coe_mul]; norm_num

/-- One over ten is the temperature. -/
theorem one_tenth : Ideal.div (Ideal.ofBits .f32 0x3F800000#32) (Ideal.ofBits .f32 0x41200000#32) = tenth := by
  rw [word_1, word_10]
  unfold Ideal.div tenth
  rw [if_neg (by rw [← EReal.coe_zero, EReal.coe_eq_coe_iff]; norm_num), ← EReal.coe_inv, ← EReal.coe_mul]
  norm_num

/-- Scaling by the reciprocal is dividing. -/
theorem mul_512th (x : EReal) : x * Ideal.ofBits .f32 0x3B000000#32 = Ideal.div x (Ideal.ofBits .f32 0x44000000#32) := by
  rw [word_512th, word_512]
  unfold Ideal.div
  rw [if_neg (by rw [← EReal.coe_zero, EReal.coe_eq_coe_iff]; norm_num), ← EReal.coe_inv]
  norm_num

end Cert

end
-- ==== Proof.Ideal.Corr.lean ====
module

public import proofs.«01_k».proof.Proof.Ideal.Body
public import proofs.«01_k».proof.Proof.Loss
public import Idealize.ShloMosaic.Lib.Pointwise

/-! The kernel's two sums over a block of 128 pairs: of the table's last cells, and of the correlations. -/

@[expose] public section

set_option maxRecDepth 16384

noncomputable section

namespace Cert.KernelIdeal.Gen

open Idealize.ShloMosaic

/-- A scaled row of column sums. -/
theorem mean_at (x : FVec Ideal S512x128 .f32) (i : Fin 512) (l : Fin 128) :
    subf x (broadcastTo S512x128 (mulf (shapeCast S1x128 (multiReduction .add [0] S128 x 0x00000000#32 reduces_S512x128_S128 (.inl rfl) rfl) shapeCasts_S128_S1x128) (broadcast S1x128 (Scalar.ofBits .f32 0x3B000000#32 : Ideal .f32))) broadcasts_S1x128_S512x128) (ix2 i l)
      = centre (fun j => x (ix2 j l)) i := by
  unfold centre
  rw [← mul_512th]
  pointwise

/-- A column's sum of products. -/
theorem colDot_at (x y : FVec Ideal S512x128 .f32) (l : Fin 128) :
    shapeCast S1x128 (multiReduction .add [0] S128 (mulf x y) 0x00000000#32 reduces_S512x128_S128 (.inl rfl) rfl) shapeCasts_S128_S1x128 (ix2 0 l)
      = (∑ i, x (ix2 i l) * y (ix2 i l) : EReal) := by
  pointwise

/-- The sum of a row. -/
theorem rowSum_at (x : FVec Ideal S1x128 .f32) :
    extractAt ![0, 0, 0] (shapeCast S1x1x1 (multiReduction .add [1, 2] S1 (shapeCast S1x1x128 x shapeCasts_S1x128_S1x1x128) 0x00000000#32 reduces_S1x1x128_S1 (.inl rfl) rfl) shapeCasts_S1_S1x1x1) inpos_S1x1x1_p0_0_0
      = (∑ l, x (ix2 0 l) : EReal) := by
  pointwise
  exact Fin.sum_univ_one _

/-- The summed correlations of two blocks of columns. -/
theorem corr_at (x y : FVec Ideal S512x128 .f32) :
    k0_pay133 (F := Ideal) x y = ∑ l, pears (fun i => x (ix2 i l)) (fun i => y (ix2 i l)) := by
  unfold k0_pay133
  simp only [shapeCast_self]
  refine (rowSum_at _).trans (Finset.sum_congr rfl fun l _ => ?_)
  unfold pears
  have hx := fun i => mean_at x i l
  have hy := fun i => mean_at y i l
  refine congrArg₂ Ideal.div ((colDot_at _ _ l).trans ?_) (congrArg₂ max (congrArg₂ (· * ·) (congrArg Ideal.sqrt ((colDot_at _ _ l).trans ?_)) (congrArg Ideal.sqrt ((colDot_at _ _ l).trans ?_))) rfl)
  · exact Finset.sum_congr rfl fun i _ => by rw [hx, hy]
  · exact Finset.sum_congr rfl fun i _ => by rw [hx]
  · exact Finset.sum_congr rfl fun i _ => by rw [hy]

/-- The first row of the output block: the sum of the row it is given, in every lane. -/
theorem pay9_at (x : FVec Ideal S1x128 .f32) (l : Fin 128) : k0_pay9 (F := Ideal) x (ix2 0 l) = (∑ l, x (ix2 0 l) : EReal) :=
  rowSum_at x

end Cert.KernelIdeal.Gen

end
-- ==== Proof.Ideal.Window.lean ====
module

public import proofs.«01_k».proof.Proof.Ideal.Block

/-! One block's eight steps, as eight applications of one step on a window of rows. -/

@[expose] public section

set_option maxRecDepth 16384

noncomputable section

namespace Cert.KernelIdeal.Gen

open Idealize.ShloMosaic

variable {F : FTy → Type} [FloatOps F] [Named F] {s : Shape}

/-- The larger of three neighbours. -/
def top3 (x p q : FVec F s .f32) : FVec F s .f32 := maximumf (maximumf x p) q
/-- The sum of the three exponentials, relative to `m`. -/
def sum3 (x p q m : FVec F s .f32) : FVec F s .f32 := addf (addf (exp (subf x m)) (exp (subf p m))) (exp (subf q m))
/-- The scaled difference of the two series' rows. -/
def gap (hc : s.ShapeCasts s) (c : F .f32) (pe t : FVec F s .f32) : FVec F s .f32 := subf pe (mulf (shapeCast s t hc) (broadcast s c))
/-- A diagonal from the maximum, the sum and the difference. -/
def close (m z u : FVec F s .f32) : FVec F s .f32 := subf (addf m (log z)) (mulf u u)
/-- A diagonal from its three neighbours. -/
def cells (x p q u : FVec F s .f32) : FVec F s .f32 := close (top3 x p q) (sum3 x p q (top3 x p q)) u

/-- Sixteen rows moved down by one. -/
def sh16 (x : FVec F S16x128 .f32) : FVec F S16x128 .f32 :=
  concatenate S16x128 0 [⟨S1x128, k0_pay4⟩, ⟨S15x128, extractStridedSlice S15x128 ![0, 0] x slices_S16x128_o0_0_S15x128⟩] concatenates_S1x128_S15x128_S16x128_d0
/-- 136 rows moved down by one. -/
def sh136 (x : FVec F S136x128 .f32) : FVec F S136x128 .f32 :=
  concatenate S136x128 0 [⟨S1x128, k0_pay4⟩, ⟨S135x128, extractStridedSlice S135x128 ![0, 0] x slices_S136x128_o0_0_S135x128⟩] concatenates_S1x128_S135x128_S136x128_d0

/-- One step: from the last diagonal and the moved one before it to the next diagonal and the moved last one. -/
def next (sh : FVec F s .f32 → FVec F s .f32) (hc : s.ShapeCasts s) (c : F .f32) (pe t : FVec F s .f32)
    (w : FVec F s .f32 × FVec F s .f32) : FVec F s .f32 × FVec F s .f32 :=
  (cells (sh w.1) w.1 w.2 (gap hc c pe t), sh w.1)

/-- Eight steps. -/
def next8 (sh : FVec F s .f32 → FVec F s .f32) (hc : s.ShapeCasts s) (c : F .f32) (pe t0 t1 t2 t3 t4 t5 t6 t7 : FVec F s .f32)
    (w : FVec F s .f32 × FVec F s .f32) : FVec F s .f32 × FVec F s .f32 :=
  next sh hc c pe t7 (next sh hc c pe t6 (next sh hc c pe t5 (next sh hc c pe t4
    (next sh hc c pe t3 (next sh hc c pe t2 (next sh hc c pe t1 (next sh hc c pe t0 w)))))))

/-- The prediction rows of a window, scaled. -/
def scaled (hc : s.ShapeCasts s) (c : F .f32) (p : FVec F s .f32) : FVec F s .f32 := mulf (shapeCast s p hc) (broadcast s c)

/-- The last eight rows of sixteen. -/
def cut16 (x : FVec F S16x128 .f32) : FVec F S8x128 .f32 :=
  shapeCast S8x128 (extractStridedSlice S8x128 ![8, 0] x slices_S16x128_o8_0_S8x128) shapeCasts_S8x128_S8x128
/-- The last 128 rows of 136. -/
def cut136 (x : FVec F S136x128 .f32) : FVec F S128x128 .f32 :=
  shapeCast S128x128 (extractStridedSlice S128x128 ![8, 0] x slices_S136x128_o8_0_S128x128) shapeCasts_S128x128_S128x128

section Stages16

variable (c : F .f32) (p a b pe t t' t'' : FVec F S16x128 .f32) (w : FVec F S16x128 .f32 × FVec F S16x128 .f32)

/-- Block 1: the first diagonal moved, and the second one's parts. -/
theorem a16₁ : k0_pay15 k0_pay4 c a b p t = sh16 (next sh16 shapeCasts_S16x128_S16x128 c (scaled shapeCasts_S16x128_S16x128 c p) t (a, b)).1 := rfl
theorem a16₂ : k0_pay16 k0_pay4 c a b p t = (top3 (sh16 (next sh16 shapeCasts_S16x128_S16x128 c (scaled shapeCasts_S16x128_S16x128 c p) t (a, b)).1) (next sh16 shapeCasts_S16x128_S16x128 c (scaled shapeCasts_S16x128_S16x128 c p) t (a, b)).1 (next sh16 shapeCasts_S16x128_S16x128 c (scaled shapeCasts_S16x128_S16x128 c p) t (a, b)).2) := rfl
theorem a16₃ : k0_pay17 k0_pay4 c a b p t = sum3 (sh16 (next sh16 shapeCasts_S16x128_S16x128 c (scaled shapeCasts_S16x128_S16x128 c p) t (a, b)).1) (next sh16 shapeCasts_S16x128_S16x128 c (scaled shapeCasts_S16x128_S16x128 c p) t (a, b)).1 (next sh16 shapeCasts_S16x128_S16x128 c (scaled shapeCasts_S16x128_S16x128 c p) t (a, b)).2 (top3 (sh16 (next sh16 shapeCasts_S16x128_S16x128 c (scaled shapeCasts_S16x128_S16x128 c p) t (a, b)).1) (next sh16 shapeCasts_S16x128_S16x128 c (scaled shapeCasts_S16x128_S16x128 c p) t (a, b)).1 (next sh16 shapeCasts_S16x128_S16x128 c (scaled shapeCasts_S16x128_S16x128 c p) t (a, b)).2) := rfl
theorem a16₄ : k0_pay18 c p t = gap shapeCasts_S16x128_S16x128 c (scaled shapeCasts_S16x128_S16x128 c p) t := rfl

/-- Block 1: from the second diagonal's parts to the fifth's. -/
theorem b16₁ : k0_pay22 k0_pay4 c pe (sh16 w.1) (top3 (sh16 w.1) w.1 w.2) (sum3 (sh16 w.1) w.1 w.2 (top3 (sh16 w.1) w.1 w.2)) (gap shapeCasts_S16x128_S16x128 c pe t) t' = sh16 (next sh16 shapeCasts_S16x128_S16x128 c pe t' (next sh16 shapeCasts_S16x128_S16x128 c pe t w)).1 := rfl
theorem b16₂ : k0_pay23 k0_pay4 c pe (sh16 w.1) (top3 (sh16 w.1) w.1 w.2) (sum3 (sh16 w.1) w.1 w.2 (top3 (sh16 w.1) w.1 w.2)) (gap shapeCasts_S16x128_S16x128 c pe t) t' t'' = (next sh16 shapeCasts_S16x128_S16x128 c pe t'' (next sh16 shapeCasts_S16x128_S16x128 c pe t' (next sh16 shapeCasts_S16x128_S16x128 c pe t w))).1 := rfl
theorem b16₃ : k0_pay24 k0_pay4 c pe (sh16 w.1) (top3 (sh16 w.1) w.1 w.2) (sum3 (sh16 w.1) w.1 w.2 (top3 (sh16 w.1) w.1 w.2)) (gap shapeCasts_S16x128_S16x128 c pe t) t' t'' = sh16 (next sh16 shapeCasts_S16x128_S16x128 c pe t'' (next sh16 shapeCasts_S16x128_S16x128 c pe t' (next sh16 shapeCasts_S16x128_S16x128 c pe t w))).1 := rfl
theorem b16₄ : k0_pay25 k0_pay4 c pe (sh16 w.1) (top3 (sh16 w.1) w.1 w.2) (sum3 (sh16 w.1) w.1 w.2 (top3 (sh16 w.1) w.1 w.2)) (gap shapeCasts_S16x128_S16x128 c pe t) t' t'' = (top3 (sh16 (next sh16 shapeCasts_S16x128_S16x128 c pe t'' (next sh16 shapeCasts_S16x128_S16x128 c pe t' (next sh16 shapeCasts_S16x128_S16x128 c pe t w))).1) (next sh16 shapeCasts_S16x128_S16x128 c pe t'' (next sh16 shapeCasts_S16x128_S16x128 c pe t' (next sh16 shapeCasts_S16x128_S16x128 c pe t w))).1 (next sh16 shapeCasts_S16x128_S16x128 c pe t'' (next sh16 shapeCasts_S16x128_S16x128 c pe t' (next sh16 shapeCasts_S16x128_S16x128 c pe t w))).2) := rfl
theorem b16₅ : k0_pay26 k0_pay4 c pe (sh16 w.1) (top3 (sh16 w.1) w.1 w.2) (sum3 (sh16 w.1) w.1 w.2 (top3 (sh16 w.1) w.1 w.2)) (gap shapeCasts_S16x128_S16x128 c pe t) t' t'' = exp (subf (sh16 (next sh16 shapeCasts_S16x128_S16x128 c pe t'' (next sh16 shapeCasts_S16x128_S16x128 c pe t' (next sh16 shapeCasts_S16x128_S16x128 c pe t w))).1) (top3 (sh16 (next sh16 shapeCasts_S16x128_S16x128 c pe t'' (next sh16 shapeCasts_S16x128_S16x128 c pe t' (next sh16 shapeCasts_S16x128_S16x128 c pe t w))).1) (next sh16 shapeCasts_S16x128_S16x128 c pe t'' (next sh16 shapeCasts_S16x128_S16x128 c pe t' (next sh16 shapeCasts_S16x128_S16x128 c pe t w))).1 (next sh16 shapeCasts_S16x128_S16x128 c pe t'' (next sh16 shapeCasts_S16x128_S16x128 c pe t' (next sh16 shapeCasts_S16x128_S16x128 c pe t w))).2)) := rfl

/-- Block 1: from the fifth diagonal's parts to the seventh's. -/
theorem c16₁ : k0_pay30 k0_pay4 c pe (sh16 w.1) (next sh16 shapeCasts_S16x128_S16x128 c pe t'' w).1 (sh16 (next sh16 shapeCasts_S16x128_S16x128 c pe t'' w).1) (top3 (sh16 (next sh16 shapeCasts_S16x128_S16x128 c pe t'' w).1) (next sh16 shapeCasts_S16x128_S16x128 c pe t'' w).1 (next sh16 shapeCasts_S16x128_S16x128 c pe t'' w).2) (exp (subf (sh16 (next sh16 shapeCasts_S16x128_S16x128 c pe t'' w).1) (top3 (sh16 (next sh16 shapeCasts_S16x128_S16x128 c pe t'' w).1) (next sh16 shapeCasts_S16x128_S16x128 c pe t'' w).1 (next sh16 shapeCasts_S16x128_S16x128 c pe t'' w).2))) t t' = sh16 (next sh16 shapeCasts_S16x128_S16x128 c pe t' (next sh16 shapeCasts_S16x128_S16x128 c pe t (next sh16 shapeCasts_S16x128_S16x128 c pe t'' w))).1 := rfl
theorem c16₂ : k0_pay31 k0_pay4 c pe (sh16 w.1) (next sh16 shapeCasts_S16x128_S16x128 c pe t'' w).1 (sh16 (next sh16 shapeCasts_S16x128_S16x128 c pe t'' w).1) (top3 (sh16 (next sh16 shapeCasts_S16x128_S16x128 c pe t'' w).1) (next sh16 shapeCasts_S16x128_S16x128 c pe t'' w).1 (next sh16 shapeCasts_S16x128_S16x128 c pe t'' w).2) (exp (subf (sh16 (next sh16 shapeCasts_S16x128_S16x128 c pe t'' w).1) (top3 (sh16 (next sh16 shapeCasts_S16x128_S16x128 c pe t'' w).1) (next sh16 shapeCasts_S16x128_S16x128 c pe t'' w).1 (next sh16 shapeCasts_S16x128_S16x128 c pe t'' w).2))) t t' = (top3 (sh16 (next sh16 shapeCasts_S16x128_S16x128 c pe t' (next sh16 shapeCasts_S16x128_S16x128 c pe t (next sh16 shapeCasts_S16x128_S16x128 c pe t'' w))).1) (next sh16 shapeCasts_S16x128_S16x128 c pe t' (next sh16 shapeCasts_S16x128_S16x128 c pe t (next sh16 shapeCasts_S16x128_S16x128 c pe t'' w))).1 (next sh16 shapeCasts_S16x128_S16x128 c pe t' (next sh16 shapeCasts_S16x128_S16x128 c pe t (next sh16 shapeCasts_S16x128_S16x128 c pe t'' w))).2) := rfl
theorem c16₃ : k0_pay32 k0_pay4 c pe (sh16 w.1) (next sh16 shapeCasts_S16x128_S16x128 c pe t'' w).1 (sh16 (next sh16 shapeCasts_S16x128_S16x128 c pe t'' w).1) (top3 (sh16 (next sh16 shapeCasts_S16x128_S16x128 c pe t'' w).1) (next sh16 shapeCasts_S16x128_S16x128 c pe t'' w).1 (next sh16 shapeCasts_S16x128_S16x128 c pe t'' w).2) (exp (subf (sh16 (next sh16 shapeCasts_S16x128_S16x128 c pe t'' w).1) (top3 (sh16 (next sh16 shapeCasts_S16x128_S16x128 c pe t'' w).1) (next sh16 shapeCasts_S16x128_S16x128 c pe t'' w).1 (next sh16 shapeCasts_S16x128_S16x128 c pe t'' w).2))) t t' = sum3 (sh16 (next sh16 shapeCasts_S16x128_S16x128 c pe t' (next sh16 shapeCasts_S16x128_S16x128 c pe t (next sh16 shapeCasts_S16x128_S16x128 c pe t'' w))).1) (next sh16 shapeCasts_S16x128_S16x128 c pe t' (next sh16 shapeCasts_S16x128_S16x128 c pe t (next sh16 shapeCasts_S16x128_S16x128 c pe t'' w))).1 (next sh16 shapeCasts_S16x128_S16x128 c pe t' (next sh16 shapeCasts_S16x128_S16x128 c pe t (next sh16 shapeCasts_S16x128_S16x128 c pe t'' w))).2 (top3 (sh16 (next sh16 shapeCasts_S16x128_S16x128 c pe t' (next sh16 shapeCasts_S16x128_S16x128 c pe t (next sh16 shapeCasts_S16x128_S16x128 c pe t'' w))).1) (next sh16 shapeCasts_S16x128_S16x128 c pe t' (next sh16 shapeCasts_S16x128_S16x128 c pe t (next sh16 shapeCasts_S16x128_S16x128 c pe t'' w))).1 (next sh16 shapeCasts_S16x128_S16x128 c pe t' (next sh16 shapeCasts_S16x128_S16x128 c pe t (next sh16 shapeCasts_S16x128_S16x128 c pe t'' w))).2) := rfl

/-- Block 1: the last two diagonals, cut. -/
theorem d16₁ : k0_pay119 k0_pay4 c pe (sh16 w.1) (top3 (sh16 w.1) w.1 w.2) (sum3 (sh16 w.1) w.1 w.2 (top3 (sh16 w.1) w.1 w.2)) t t' = cut16 (next sh16 shapeCasts_S16x128_S16x128 c pe t' (next sh16 shapeCasts_S16x128_S16x128 c pe t w)).1 := rfl
theorem d16₂ : k0_pay120 k0_pay4 c pe (top3 (sh16 w.1) w.1 w.2) (sum3 (sh16 w.1) w.1 w.2 (top3 (sh16 w.1) w.1 w.2)) t = cut16 (next sh16 shapeCasts_S16x128_S16x128 c pe t' (next sh16 shapeCasts_S16x128_S16x128 c pe t w)).2 := rfl

end Stages16

section Stages136

variable (c : F .f32) (p a b pe t t' t'' : FVec F S136x128 .f32) (w : FVec F S136x128 .f32 × FVec F S136x128 .f32)

/-- Block 2: the first diagonal moved, and the second one's parts. -/
theorem a136₁ : k0_pay36 k0_pay4 c a b p t = sh136 (next sh136 shapeCasts_S136x128_S136x128 c (scaled shapeCasts_S136x128_S136x128 c p) t (a, b)).1 := rfl
theorem a136₂ : k0_pay37 k0_pay4 c a b p t = (top3 (sh136 (next sh136 shapeCasts_S136x128_S136x128 c (scaled shapeCasts_S136x128_S136x128 c p) t (a, b)).1) (next sh136 shapeCasts_S136x128_S136x128 c (scaled shapeCasts_S136x128_S136x128 c p) t (a, b)).1 (next sh136 shapeCasts_S136x128_S136x128 c (scaled shapeCasts_S136x128_S136x128 c p) t (a, b)).2) := rfl
theorem a136₃ : k0_pay38 k0_pay4 c a b p t = sum3 (sh136 (next sh136 shapeCasts_S136x128_S136x128 c (scaled shapeCasts_S136x128_S136x128 c p) t (a, b)).1) (next sh136 shapeCasts_S136x128_S136x128 c (scaled shapeCasts_S136x128_S136x128 c p) t (a, b)).1 (next sh136 shapeCasts_S136x128_S136x128 c (scaled shapeCasts_S136x128_S136x128 c p) t (a, b)).2 (top3 (sh136 (next sh136 shapeCasts_S136x128_S136x128 c (scaled shapeCasts_S136x128_S136x128 c p) t (a, b)).1) (next sh136 shapeCasts_S136x128_S136x128 c (scaled shapeCasts_S136x128_S136x128 c p) t (a, b)).1 (next sh136 shapeCasts_S136x128_S136x128 c (scaled shapeCasts_S136x128_S136x128 c p) t (a, b)).2) := rfl
theorem a136₄ : k0_pay39 c p t = gap shapeCasts_S136x128_S136x128 c (scaled shapeCasts_S136x128_S136x128 c p) t := rfl

/-- Block 2: from the second diagonal's parts to the fifth's. -/
theorem b136₁ : k0_pay43 k0_pay4 c pe (sh136 w.1) (top3 (sh136 w.1) w.1 w.2) (sum3 (sh136 w.1) w.1 w.2 (top3 (sh136 w.1) w.1 w.2)) (gap shapeCasts_S136x128_S136x128 c pe t) t' = sh136 (next sh136 shapeCasts_S136x128_S136x128 c pe t' (next sh136 shapeCasts_S136x128_S136x128 c pe t w)).1 := rfl
theorem b136₂ : k0_pay44 k0_pay4 c pe (sh136 w.1) (top3 (sh136 w.1) w.1 w.2) (sum3 (sh136 w.1) w.1 w.2 (top3 (sh136 w.1) w.1 w.2)) (gap shapeCasts_S136x128_S136x128 c pe t) t' t'' = (next sh136 shapeCasts_S136x128_S136x128 c pe t'' (next sh136 shapeCasts_S136x128_S136x128 c pe t' (next sh136 shapeCasts_S136x128_S136x128 c pe t w))).1 := rfl
theorem b136₃ : k0_pay45 k0_pay4 c pe (sh136 w.1) (top3 (sh136 w.1) w.1 w.2) (sum3 (sh136 w.1) w.1 w.2 (top3 (sh136 w.1) w.1 w.2)) (gap shapeCasts_S136x128_S136x128 c pe t) t' t'' = sh136 (next sh136 shapeCasts_S136x128_S136x128 c pe t'' (next sh136 shapeCasts_S136x128_S136x128 c pe t' (next sh136 shapeCasts_S136x128_S136x128 c pe t w))).1 := rfl
theorem b136₄ : k0_pay46 k0_pay4 c pe (sh136 w.1) (top3 (sh136 w.1) w.1 w.2) (sum3 (sh136 w.1) w.1 w.2 (top3 (sh136 w.1) w.1 w.2)) (gap shapeCasts_S136x128_S136x128 c pe t) t' t'' = (top3 (sh136 (next sh136 shapeCasts_S136x128_S136x128 c pe t'' (next sh136 shapeCasts_S136x128_S136x128 c pe t' (next sh136 shapeCasts_S136x128_S136x128 c pe t w))).1) (next sh136 shapeCasts_S136x128_S136x128 c pe t'' (next sh136 shapeCasts_S136x128_S136x128 c pe t' (next sh136 shapeCasts_S136x128_S136x128 c pe t w))).1 (next sh136 shapeCasts_S136x128_S136x128 c pe t'' (next sh136 shapeCasts_S136x128_S136x128 c pe t' (next sh136 shapeCasts_S136x128_S136x128 c pe t w))).2) := rfl
theorem b136₅ : k0_pay47 k0_pay4 c pe (sh136 w.1) (top3 (sh136 w.1) w.1 w.2) (sum3 (sh136 w.1) w.1 w.2 (top3 (sh136 w.1) w.1 w.2)) (gap shapeCasts_S136x128_S136x128 c pe t) t' t'' = exp (subf (sh136 (next sh136 shapeCasts_S136x128_S136x128 c pe t'' (next sh136 shapeCasts_S136x128_S136x128 c pe t' (next sh136 shapeCasts_S136x128_S136x128 c pe t w))).1) (top3 (sh136 (next sh136 shapeCasts_S136x128_S136x128 c pe t'' (next sh136 shapeCasts_S136x128_S136x128 c pe t' (next sh136 shapeCasts_S136x128_S136x128 c pe t w))).1) (next sh136 shapeCasts_S136x128_S136x128 c pe t'' (next sh136 shapeCasts_S136x128_S136x128 c pe t' (next sh136 shapeCasts_S136x128_S136x128 c pe t w))).1 (next sh136 shapeCasts_S136x128_S136x128 c pe t'' (next sh136 shapeCasts_S136x128_S136x128 c pe t' (next sh136 shapeCasts_S136x128_S136x128 c pe t w))).2)) := rfl

/-- Block 2: from the fifth diagonal's parts to the seventh's. -/
theorem c136₁ : k0_pay51 k0_pay4 c pe (sh136 w.1) (next sh136 shapeCasts_S136x128_S136x128 c pe t'' w).1 (sh136 (next sh136 shapeCasts_S136x128_S136x128 c pe t'' w).1) (top3 (sh136 (next sh136 shapeCasts_S136x128_S136x128 c pe t'' w).1) (next sh136 shapeCasts_S136x128_S136x128 c pe t'' w).1 (next sh136 shapeCasts_S136x128_S136x128 c pe t'' w).2) (exp (subf (sh136 (next sh136 shapeCasts_S136x128_S136x128 c pe t'' w).1) (top3 (sh136 (next sh136 shapeCasts_S136x128_S136x128 c pe t'' w).1) (next sh136 shapeCasts_S136x128_S136x128 c pe t'' w).1 (next sh136 shapeCasts_S136x128_S136x128 c pe t'' w).2))) t t' = sh136 (next sh136 shapeCasts_S136x128_S136x128 c pe t' (next sh136 shapeCasts_S136x128_S136x128 c pe t (next sh136 shapeCasts_S136x128_S136x128 c pe t'' w))).1 := rfl
theorem c136₂ : k0_pay52 k0_pay4 c pe (sh136 w.1) (next sh136 shapeCasts_S136x128_S136x128 c pe t'' w).1 (sh136 (next sh136 shapeCasts_S136x128_S136x128 c pe t'' w).1) (top3 (sh136 (next sh136 shapeCasts_S136x128_S136x128 c pe t'' w).1) (next sh136 shapeCasts_S136x128_S136x128 c pe t'' w).1 (next sh136 shapeCasts_S136x128_S136x128 c pe t'' w).2) (exp (subf (sh136 (next sh136 shapeCasts_S136x128_S136x128 c pe t'' w).1) (top3 (sh136 (next sh136 shapeCasts_S136x128_S136x128 c pe t'' w).1) (next sh136 shapeCasts_S136x128_S136x128 c pe t'' w).1 (next sh136 shapeCasts_S136x128_S136x128 c pe t'' w).2))) t t' = (top3 (sh136 (next sh136 shapeCasts_S136x128_S136x128 c pe t' (next sh136 shapeCasts_S136x128_S136x128 c pe t (next sh136 shapeCasts_S136x128_S136x128 c pe t'' w))).1) (next sh136 shapeCasts_S136x128_S136x128 c pe t' (next sh136 shapeCasts_S136x128_S136x128 c pe t (next sh136 shapeCasts_S136x128_S136x128 c pe t'' w))).1 (next sh136 shapeCasts_S136x128_S136x128 c pe t' (next sh136 shapeCasts_S136x128_S136x128 c pe t (next sh136 shapeCasts_S136x128_S136x128 c pe t'' w))).2) := rfl
theorem c136₃ : k0_pay53 k0_pay4 c pe (sh136 w.1) (next sh136 shapeCasts_S136x128_S136x128 c pe t'' w).1 (sh136 (next sh136 shapeCasts_S136x128_S136x128 c pe t'' w).1) (top3 (sh136 (next sh136 shapeCasts_S136x128_S136x128 c pe t'' w).1) (next sh136 shapeCasts_S136x128_S136x128 c pe t'' w).1 (next sh136 shapeCasts_S136x128_S136x128 c pe t'' w).2) (exp (subf (sh136 (next sh136 shapeCasts_S136x128_S136x128 c pe t'' w).1) (top3 (sh136 (next sh136 shapeCasts_S136x128_S136x128 c pe t'' w).1) (next sh136 shapeCasts_S136x128_S136x128 c pe t'' w).1 (next sh136 shapeCasts_S136x128_S136x128 c pe t'' w).2))) t t' = sum3 (sh136 (next sh136 shapeCasts_S136x128_S136x128 c pe t' (next sh136 shapeCasts_S136x128_S136x128 c pe t (next sh136 shapeCasts_S136x128_S136x128 c pe t'' w))).1) (next sh136 shapeCasts_S136x128_S136x128 c pe t' (next sh136 shapeCasts_S136x128_S136x128 c pe t (next sh136 shapeCasts_S136x128_S136x128 c pe t'' w))).1 (next sh136 shapeCasts_S136x128_S136x128 c pe t' (next sh136 shapeCasts_S136x128_S136x128 c pe t (next sh136 shapeCasts_S136x128_S136x128 c pe t'' w))).2 (top3 (sh136 (next sh136 shapeCasts_S136x128_S136x128 c pe t' (next sh136 shapeCasts_S136x128_S136x128 c pe t (next sh136 shapeCasts_S136x128_S136x128 c pe t'' w))).1) (next sh136 shapeCasts_S136x128_S136x128 c pe t' (next sh136 shapeCasts_S136x128_S136x128 c pe t (next sh136 shapeCasts_S136x128_S136x128 c pe t'' w))).1 (next sh136 shapeCasts_S136x128_S136x128 c pe t' (next sh136 shapeCasts_S136x128_S136x128 c pe t (next sh136 shapeCasts_S136x128_S136x128 c pe t'' w))).2) := rfl

/-- Block 2: the last two diagonals, cut. -/
theorem d136₁ : k0_pay123 k0_pay4 c pe (sh136 w.1) (top3 (sh136 w.1) w.1 w.2) (sum3 (sh136 w.1) w.1 w.2 (top3 (sh136 w.1) w.1 w.2)) t t' = cut136 (next sh136 shapeCasts_S136x128_S136x128 c pe t' (next sh136 shapeCasts_S136x128_S136x128 c pe t w)).1 := rfl
theorem d136₂ : k0_pay124 k0_pay4 c pe (top3 (sh136 w.1) w.1 w.2) (sum3 (sh136 w.1) w.1 w.2 (top3 (sh136 w.1) w.1 w.2)) t = cut136 (next sh136 shapeCasts_S136x128_S136x128 c pe t' (next sh136 shapeCasts_S136x128_S136x128 c pe t w)).2 := rfl

end Stages136

/-- What block 1 stores is the lower part of its window after eight steps. -/
theorem val1_eq (c : F .f32) (p a b t0 t1 t2 t3 t4 t5 t6 t7 : FVec F S16x128 .f32) :
    val1 c p a b t0 t1 t2 t3 t4 t5 t6 t7 = (cut16 (next8 sh16 shapeCasts_S16x128_S16x128 c (scaled shapeCasts_S16x128_S16x128 c p) t0 t1 t2 t3 t4 t5 t6 t7 (a, b)).1, cut16 (next8 sh16 shapeCasts_S16x128_S16x128 c (scaled shapeCasts_S16x128_S16x128 c p) t0 t1 t2 t3 t4 t5 t6 t7 (a, b)).2) := by
  have h : k0_pay12 c p = (scaled shapeCasts_S16x128_S16x128 c p) := rfl
  unfold val1
  rw [a16₁, a16₂, a16₃, a16₄, h]
  dsimp only
  rw [b16₁, b16₂, b16₃, b16₄, b16₅, c16₁, c16₂, c16₃, d16₁, d16₂]
  rfl

/-- What block 2 stores is the lower part of its window after eight steps. -/
theorem val2_eq (c : F .f32) (p a b t0 t1 t2 t3 t4 t5 t6 t7 : FVec F S136x128 .f32) :
    val2 c p a b t0 t1 t2 t3 t4 t5 t6 t7 = (cut136 (next8 sh136 shapeCasts_S136x128_S136x128 c (scaled shapeCasts_S136x128_S136x128 c p) t0 t1 t2 t3 t4 t5 t6 t7 (a, b)).1, cut136 (next8 sh136 shapeCasts_S136x128_S136x128 c (scaled shapeCasts_S136x128_S136x128 c p) t0 t1 t2 t3 t4 t5 t6 t7 (a, b)).2) := by
  have h : k0_pay33 c p = (scaled shapeCasts_S136x128_S136x128 c p) := rfl
  unfold val2
  rw [a136₁, a136₂, a136₃, a136₄, h]
  dsimp only
  rw [b136₁, b136₂, b136₃, b136₄, b136₅, c136₁, c136₂, c136₃, d136₁, d136₂]
  rfl

/-- Block 3 does what block 2 does. -/
theorem val3_eq (c : F .f32) (p a b t0 t1 t2 t3 t4 t5 t6 t7 : FVec F S136x128 .f32) :
    val3 c p a b t0 t1 t2 t3 t4 t5 t6 t7 = val2 c p a b t0 t1 t2 t3 t4 t5 t6 t7 := rfl

/-- Block 4 does what block 2 does. -/
theorem val4_eq (c : F .f32) (p a b t0 t1 t2 t3 t4 t5 t6 t7 : FVec F S136x128 .f32) :
    val4 c p a b t0 t1 t2 t3 t4 t5 t6 t7 = val2 c p a b t0 t1 t2 t3 t4 t5 t6 t7 := rfl

end Cert.KernelIdeal.Gen

end
-- ==== Proof.Ideal.Window5.lean ====
module

public import proofs.«01_k».proof.Proof.Ideal.Window

/-! The topmost block's eight steps: its window is eight rows of filler over the 128 rows it loads. -/

@[expose] public section

set_option maxRecDepth 16384

noncomputable section

namespace Cert.KernelIdeal.Gen

open Idealize.ShloMosaic

variable {F : FTy → Type} [FloatOps F] [Named F]

/-- Eight rows over 128 rows. -/
def under (f : FVec F S8x128 .f32) (x : FVec F S128x128 .f32) : FVec F S136x128 .f32 :=
  concatenate S136x128 0 [⟨S8x128, f⟩, ⟨S128x128, x⟩] concatenates_S8x128_S128x128_S136x128_d0

/-- The topmost window's prediction rows, scaled. -/
def scaled5 (c : F .f32) (p : FVec F S128x128 .f32) : FVec F S136x128 .f32 :=
  under k0_pay3 (mulf (shapeCast S128x128 p shapeCasts_S128x128_S128x128) (broadcast S128x128 c))

section Stages5

variable (c : F .f32) (p a b : FVec F S128x128 .f32) (pe t t' t'' : FVec F S136x128 .f32) (w : FVec F S136x128 .f32 × FVec F S136x128 .f32)

/-- Block 5: the first diagonal moved, and the second one's parts. -/
theorem a5₁ : k0_pay100 k0_pay2 k0_pay3 k0_pay4 c a b p t = sh136 (next sh136 shapeCasts_S136x128_S136x128 c (scaled5 c p) t (under k0_pay2 a, under k0_pay2 b)).1 := rfl
theorem a5₂ : k0_pay101 k0_pay2 k0_pay3 k0_pay4 c a b p t = (top3 (sh136 (next sh136 shapeCasts_S136x128_S136x128 c (scaled5 c p) t (under k0_pay2 a, under k0_pay2 b)).1) (next sh136 shapeCasts_S136x128_S136x128 c (scaled5 c p) t (under k0_pay2 a, under k0_pay2 b)).1 (next sh136 shapeCasts_S136x128_S136x128 c (scaled5 c p) t (under k0_pay2 a, under k0_pay2 b)).2) := rfl
theorem a5₃ : k0_pay102 k0_pay2 k0_pay3 k0_pay4 c a b p t = sum3 (sh136 (next sh136 shapeCasts_S136x128_S136x128 c (scaled5 c p) t (under k0_pay2 a, under k0_pay2 b)).1) (next sh136 shapeCasts_S136x128_S136x128 c (scaled5 c p) t (under k0_pay2 a, under k0_pay2 b)).1 (next sh136 shapeCasts_S136x128_S136x128 c (scaled5 c p) t (under k0_pay2 a, under k0_pay2 b)).2 (top3 (sh136 (next sh136 shapeCasts_S136x128_S136x128 c (scaled5 c p) t (under k0_pay2 a, under k0_pay2 b)).1) (next sh136 shapeCasts_S136x128_S136x128 c (scaled5 c p) t (under k0_pay2 a, under k0_pay2 b)).1 (next sh136 shapeCasts_S136x128_S136x128 c (scaled5 c p) t (under k0_pay2 a, under k0_pay2 b)).2) := rfl

/-- Block 5: from the second diagonal's parts to the fifth's. -/
theorem b5₁ : k0_pay107 k0_pay4 c pe (sh136 w.1) (top3 (sh136 w.1) w.1 w.2) (sum3 (sh136 w.1) w.1 w.2 (top3 (sh136 w.1) w.1 w.2)) (shapeCast S136x128 t shapeCasts_S136x128_S136x128) t' = sh136 (next sh136 shapeCasts_S136x128_S136x128 c pe t' (next sh136 shapeCasts_S136x128_S136x128 c pe t w)).1 := rfl
theorem b5₂ : k0_pay108 k0_pay4 c pe (sh136 w.1) (top3 (sh136 w.1) w.1 w.2) (sum3 (sh136 w.1) w.1 w.2 (top3 (sh136 w.1) w.1 w.2)) (shapeCast S136x128 t shapeCasts_S136x128_S136x128) t' t'' = (next sh136 shapeCasts_S136x128_S136x128 c pe t'' (next sh136 shapeCasts_S136x128_S136x128 c pe t' (next sh136 shapeCasts_S136x128_S136x128 c pe t w))).1 := rfl
theorem b5₃ : k0_pay109 k0_pay4 c pe (sh136 w.1) (top3 (sh136 w.1) w.1 w.2) (sum3 (sh136 w.1) w.1 w.2 (top3 (sh136 w.1) w.1 w.2)) (shapeCast S136x128 t shapeCasts_S136x128_S136x128) t' t'' = sh136 (next sh136 shapeCasts_S136x128_S136x128 c pe t'' (next sh136 shapeCasts_S136x128_S136x128 c pe t' (next sh136 shapeCasts_S136x128_S136x128 c pe t w))).1 := rfl
theorem b5₄ : k0_pay110 k0_pay4 c pe (sh136 w.1) (top3 (sh136 w.1) w.1 w.2) (sum3 (sh136 w.1) w.1 w.2 (top3 (sh136 w.1) w.1 w.2)) (shapeCast S136x128 t shapeCasts_S136x128_S136x128) t' t'' = maximumf (sh136 (next sh136 shapeCasts_S136x128_S136x128 c pe t'' (next sh136 shapeCasts_S136x128_S136x128 c pe t' (next sh136 shapeCasts_S136x128_S136x128 c pe t w))).1) (next sh136 shapeCasts_S136x128_S136x128 c pe t'' (next sh136 shapeCasts_S136x128_S136x128 c pe t' (next sh136 shapeCasts_S136x128_S136x128 c pe t w))).1 := rfl

/-- Block 5: from the fifth diagonal's parts to the seventh's. -/
theorem c5₁ : k0_pay114 k0_pay4 c pe (sh136 w.1) (next sh136 shapeCasts_S136x128_S136x128 c pe t'' w).1 (sh136 (next sh136 shapeCasts_S136x128_S136x128 c pe t'' w).1) (maximumf (sh136 (next sh136 shapeCasts_S136x128_S136x128 c pe t'' w).1) (next sh136 shapeCasts_S136x128_S136x128 c pe t'' w).1) t t' = sh136 (next sh136 shapeCasts_S136x128_S136x128 c pe t' (next sh136 shapeCasts_S136x128_S136x128 c pe t (next sh136 shapeCasts_S136x128_S136x128 c pe t'' w))).1 := rfl
theorem c5₂ : k0_pay115 k0_pay4 c pe (sh136 w.1) (next sh136 shapeCasts_S136x128_S136x128 c pe t'' w).1 (sh136 (next sh136 shapeCasts_S136x128_S136x128 c pe t'' w).1) (maximumf (sh136 (next sh136 shapeCasts_S136x128_S136x128 c pe t'' w).1) (next sh136 shapeCasts_S136x128_S136x128 c pe t'' w).1) t t' = (top3 (sh136 (next sh136 shapeCasts_S136x128_S136x128 c pe t' (next sh136 shapeCasts_S136x128_S136x128 c pe t (next sh136 shapeCasts_S136x128_S136x128 c pe t'' w))).1) (next sh136 shapeCasts_S136x128_S136x128 c pe t' (next sh136 shapeCasts_S136x128_S136x128 c pe t (next sh136 shapeCasts_S136x128_S136x128 c pe t'' w))).1 (next sh136 shapeCasts_S136x128_S136x128 c pe t' (next sh136 shapeCasts_S136x128_S136x128 c pe t (next sh136 shapeCasts_S136x128_S136x128 c pe t'' w))).2) := rfl
theorem c5₃ : k0_pay116 k0_pay4 c pe (sh136 w.1) (next sh136 shapeCasts_S136x128_S136x128 c pe t'' w).1 (sh136 (next sh136 shapeCasts_S136x128_S136x128 c pe t'' w).1) (maximumf (sh136 (next sh136 shapeCasts_S136x128_S136x128 c pe t'' w).1) (next sh136 shapeCasts_S136x128_S136x128 c pe t'' w).1) t t' = sum3 (sh136 (next sh136 shapeCasts_S136x128_S136x128 c pe t' (next sh136 shapeCasts_S136x128_S136x128 c pe t (next sh136 shapeCasts_S136x128_S136x128 c pe t'' w))).1) (next sh136 shapeCasts_S136x128_S136x128 c pe t' (next sh136 shapeCasts_S136x128_S136x128 c pe t (next sh136 shapeCasts_S136x128_S136x128 c pe t'' w))).1 (next sh136 shapeCasts_S136x128_S136x128 c pe t' (next sh136 shapeCasts_S136x128_S136x128 c pe t (next sh136 shapeCasts_S136x128_S136x128 c pe t'' w))).2 (top3 (sh136 (next sh136 shapeCasts_S136x128_S136x128 c pe t' (next sh136 shapeCasts_S136x128_S136x128 c pe t (next sh136 shapeCasts_S136x128_S136x128 c pe t'' w))).1) (next sh136 shapeCasts_S136x128_S136x128 c pe t' (next sh136 shapeCasts_S136x128_S136x128 c pe t (next sh136 shapeCasts_S136x128_S136x128 c pe t'' w))).1 (next sh136 shapeCasts_S136x128_S136x128 c pe t' (next sh136 shapeCasts_S136x128_S136x128 c pe t (next sh136 shapeCasts_S136x128_S136x128 c pe t'' w))).2) := rfl

end Stages5

section Last5

variable (pe t t' : FVec F S136x128 .f32) (w : FVec F S136x128 .f32 × FVec F S136x128 .f32)

/-- Block 5: the last two diagonals, cut. -/
theorem d5₁ : k0_pay7 pe (sh136 w.1) (top3 (sh136 w.1) w.1 w.2) (sum3 (sh136 w.1) w.1 w.2 (top3 (sh136 w.1) w.1 w.2)) t t' = cut136 (next sh136 shapeCasts_S136x128_S136x128 (Named.named κ "s" 0x404A62C2#32) pe t' (next sh136 shapeCasts_S136x128_S136x128 (Named.named κ "s" 0x404A62C2#32) pe t w)).1 := rfl
theorem d5₂ : k0_pay8 pe (top3 (sh136 w.1) w.1 w.2) (sum3 (sh136 w.1) w.1 w.2 (top3 (sh136 w.1) w.1 w.2)) t = cut136 (next sh136 shapeCasts_S136x128_S136x128 (Named.named κ "s" 0x404A62C2#32) pe t' (next sh136 shapeCasts_S136x128_S136x128 (Named.named κ "s" 0x404A62C2#32) pe t w)).2 := rfl

end Last5

/-- What block 5 stores is the lower part of its window after eight steps. -/
theorem val5_eq (p a b : FVec F S128x128 .f32) (t0 t1 t2 t3 t4 t5 t6 t7 : FVec F S136x128 .f32) :
    val5 (Named.named κ "s" 0x404A62C2#32) p a b t0 t1 t2 t3 t4 t5 t6 t7 = (cut136 (next8 sh136 shapeCasts_S136x128_S136x128 (Named.named κ "s" 0x404A62C2#32) (scaled5 (Named.named κ "s" 0x404A62C2#32) p) t0 t1 t2 t3 t4 t5 t6 t7 (under k0_pay2 a, under k0_pay2 b)).1, cut136 (next8 sh136 shapeCasts_S136x128_S136x128 (Named.named κ "s" 0x404A62C2#32) (scaled5 (Named.named κ "s" 0x404A62C2#32) p) t0 t1 t2 t3 t4 t5 t6 t7 (under k0_pay2 a, under k0_pay2 b)).2) := by
  have h : k0_pay97 k0_pay3 (Named.named κ "s" 0x404A62C2#32) p = scaled5 (Named.named κ "s" 0x404A62C2#32) p := rfl
  have h' : k0_pay103 t1 = shapeCast S136x128 t1 shapeCasts_S136x128_S136x128 := rfl
  unfold val5
  rw [a5₁, a5₂, a5₃, h, h']
  dsimp only
  rw [b5₁, b5₂, b5₃, b5₄, c5₁, c5₂, c5₃, d5₁ _ t6 t7, d5₂ _ t6 t7]
  rfl

end Cert.KernelIdeal.Gen

end
-- ==== Proof.Ideal.Rows.lean ====
module

public import proofs.«01_k».proof.Proof.Ideal.Window5
public import proofs.«01_k».proof.Proof.Table
public import Idealize.ShloMosaic.Lib.Pointwise
public import Idealize.ShloMosaic.Lib.Pipeline.ValueKit

/-! The windows' rows, one lane at a time, and eight steps on a window in terms of the table's diagonals. -/

@[expose] public section

set_option maxRecDepth 16384

noncomputable section

namespace Cert.KernelIdeal.Gen

open Idealize.ShloMosaic

/-- Row `w` of an array of 128 lanes, in lane `l` (`⊥` past its last row). -/
def row {R : ℕ} (x : (⟨2, ![R, 128]⟩ : Shape).Idx → EReal) (l : Fin 128) (w : ℕ) : EReal :=
  if h : w < R then x (ix2 ⟨w, h⟩ l) else ⊥

theorem row_of {R : ℕ} (x : (⟨2, ![R, 128]⟩ : Shape).Idx → EReal) (l : Fin 128) {w : ℕ} (h : w < R) : row x l w = x (ix2 ⟨w, h⟩ l) := dif_pos h

/-- A load of rows reads them from its first row on. -/
theorem row_ld {R N : ℕ} (x : (⟨2, ![N, 128]⟩ : Shape).Idx → EReal) (off : Fin 2 → ℕ) (o : ℕ) (h0 : off 0 = o) (h1 : off 1 = 0)
    (inb : ∀ a, off a + (![R, 128] : Fin 2 → ℕ) a ≤ (⟨2, ![N, 128]⟩ : Shape).size a) (l : Fin 128) {w : ℕ} (h : w < R) :
    row (R := R) (View.ld (Val := Elt Ideal) (e' := .f32) x (Rect.unit (s := ⟨2, ![N, 128]⟩) off ![R, 128] inb)) l w = row x l (o + w) := by
  have hN : o + w < N := by
    have := inb 0
    rw [h0] at this
    exact Nat.lt_of_lt_of_le (Nat.add_lt_add_left h o) this
  rw [row_of _ _ h, row_of _ _ hN]
  refine View.ld_unit_apply_of (S := ⟨2, ![N, 128]⟩) (Val := Elt Ideal) (e := .f32) x off ![R, 128] inb (ix2 ⟨w, h⟩ l) (ix2 ⟨o + w, hN⟩ l) fun a => ?_
  fin_cases a
  · show o + w = off 0 + w
    rw [h0]
  · show l.val = off 1 + l.val
    rw [h1, Nat.zero_add]

/-- Rows stored over part of an array: the rows stored where they are, the array elsewhere. -/
theorem row_put {R N : ℕ} (x : (⟨2, ![N, 128]⟩ : Shape).Idx → EReal) (y : (⟨2, ![R, 128]⟩ : Shape).Idx → EReal) (o : ℕ)
    (inb : ∀ a, (![o, 0] : Fin 2 → ℕ) a + (![R, 128] : Fin 2 → ℕ) a ≤ (⟨2, ![N, 128]⟩ : Shape).size a) (l : Fin 128) {w : ℕ} (h : o ≤ w) (h' : w < o + R) :
    row (R := N) (put (Val := Elt Ideal) (e := .f32) (Rect.unit (s := ⟨2, ![N, 128]⟩) ![o, 0] ![R, 128] inb) y x) l w = row y l (w - o) := by
  have hR : w - o < R := by omega
  have hN : w < N := Nat.lt_of_lt_of_le h' (inb 0)
  rw [row_of _ _ hR, row_of _ _ hN]
  have e : (Rect.unit (s := ⟨2, ![N, 128]⟩) ![o, 0] ![R, 128] inb).emb (ix2 ⟨w - o, hR⟩ l) = ix2 ⟨w, hN⟩ l := by
    refine Rect.emb_eq_of_coords _ _ _ fun a => ?_
    fin_cases a
    · show w = o + 1 * (w - o)
      omega
    · show l.val = 0 + 1 * l.val
      omega
  rw [← e]
  exact put_emb _ _ _ _
theorem row_put_ne {R N : ℕ} (x : (⟨2, ![N, 128]⟩ : Shape).Idx → EReal) (y : (⟨2, ![R, 128]⟩ : Shape).Idx → EReal) (o : ℕ)
    (inb : ∀ a, (![o, 0] : Fin 2 → ℕ) a + (![R, 128] : Fin 2 → ℕ) a ≤ (⟨2, ![N, 128]⟩ : Shape).size a) (l : Fin 128) {w : ℕ} (h : w < o ∨ o + R ≤ w) :
    row (R := N) (put (Val := Elt Ideal) (e := .f32) (Rect.unit (s := ⟨2, ![N, 128]⟩) ![o, 0] ![R, 128] inb) y x) l w = row x l w := by
  by_cases hN : w < N
  · rw [row_of _ _ hN, row_of _ _ hN]
    refine put_of_not_mem _ _ _ _ fun hm => ?_
    have := Rect.mem_set_unit.mp hm 0
    have h1 : o ≤ w ∧ w < o + R := this
    omega
  · unfold row
    rw [dif_neg hN, dif_neg hN]

/-- A window moved down by one. -/
theorem row_sh16 (x : FVec Ideal S16x128 .f32) (l : Fin 128) {w : ℕ} (h0 : 0 < w) (h : w < 16) : row (sh16 x) l w = row x l (w - 1) := by
  rw [row_of _ _ h, row_of _ _ (show w - 1 < 16 by omega)]
  unfold sh16
  rw [concatenate_pair_apply]
  refine (dif_neg (show ¬ w < 1 by omega)).trans ?_
  rw [Pointwise.extractStridedSlice_apply]
  refine congrArg x (funext fun a => Fin.ext ?_)
  fin_cases a
  · exact Nat.zero_add _
  · exact Nat.zero_add _
theorem row_sh136 (x : FVec Ideal S136x128 .f32) (l : Fin 128) {w : ℕ} (h0 : 0 < w) (h : w < 136) : row (sh136 x) l w = row x l (w - 1) := by
  rw [row_of _ _ h, row_of _ _ (show w - 1 < 136 by omega)]
  unfold sh136
  rw [concatenate_pair_apply]
  refine (dif_neg (show ¬ w < 1 by omega)).trans ?_
  rw [Pointwise.extractStridedSlice_apply]
  refine congrArg x (funext fun a => Fin.ext ?_)
  fin_cases a
  · exact Nat.zero_add _
  · exact Nat.zero_add _

/-- The rows kept of a window. -/
theorem row_cut16 (x : FVec Ideal S16x128 .f32) (l : Fin 128) {w : ℕ} (h : w < 8) : row (cut16 x) l w = row x l (8 + w) := by
  rw [row_of _ _ h, row_of _ _ (show 8 + w < 16 by omega)]
  unfold cut16
  rw [shapeCast_id, Pointwise.extractStridedSlice_apply]
  refine congrArg x (funext fun a => Fin.ext ?_)
  fin_cases a
  · rfl
  · exact Nat.zero_add _
theorem row_cut136 (x : FVec Ideal S136x128 .f32) (l : Fin 128) {w : ℕ} (h : w < 128) : row (cut136 x) l w = row x l (8 + w) := by
  rw [row_of _ _ h, row_of _ _ (show 8 + w < 136 by omega)]
  unfold cut136
  rw [shapeCast_id, Pointwise.extractStridedSlice_apply]
  refine congrArg x (funext fun a => Fin.ext ?_)
  fin_cases a
  · rfl
  · exact Nat.zero_add _

/-- The topmost window: its filler's rows, then the rows loaded. -/
theorem row_under_lt (f : FVec Ideal S8x128 .f32) (x : FVec Ideal S128x128 .f32) (l : Fin 128) {w : ℕ} (h : w < 8) : row (under f x) l w = row f l w := by
  rw [row_of _ _ h, row_of _ _ (show w < 136 by omega)]
  unfold under
  rw [concatenate_pair_apply]
  refine (dif_pos (show w < 8 from h)).trans ?_
  refine congrArg f (funext fun a => Fin.ext ?_)
  fin_cases a <;> rfl
theorem row_under_ge (f : FVec Ideal S8x128 .f32) (x : FVec Ideal S128x128 .f32) (l : Fin 128) {w : ℕ} (h : 8 ≤ w) (h' : w < 136) :
    row (under f x) l w = row x l (w - 8) := by
  rw [row_of _ _ h', row_of _ _ (show w - 8 < 128 by omega)]
  unfold under
  rw [concatenate_pair_apply]
  refine (dif_neg (show ¬ w < 8 by omega)).trans ?_
  refine congrArg x (funext fun a => Fin.ext ?_)
  fin_cases a <;> rfl

/-- The scaled rows. -/
theorem row_scaled {R : ℕ} (hc : (⟨2, ![R, 128]⟩ : Shape).ShapeCasts ⟨2, ![R, 128]⟩) (c : Ideal .f32) (p : FVec Ideal ⟨2, ![R, 128]⟩ .f32) (l : Fin 128) {w : ℕ}
    (h : w < R) : row (scaled hc c p) l w = (row p l w * c : EReal) := by
  rw [row_of _ _ h, row_of _ _ h]
  unfold scaled
  rw [shapeCast_id]
  rfl
theorem row_scaled5 (c : Ideal .f32) (p : FVec Ideal S128x128 .f32) (l : Fin 128) {w : ℕ} (h : 8 ≤ w) (h' : w < 136) :
    row (scaled5 c p) l w = (row p l (w - 8) * c : EReal) := by
  unfold scaled5
  rw [row_under_ge _ _ _ h h', row_of _ _ (show w - 8 < 128 by omega), row_of _ _ (show w - 8 < 128 by omega), shapeCast_id]
  rfl

variable {R : ℕ} (sh : FVec Ideal ⟨2, ![R, 128]⟩ .f32 → FVec Ideal ⟨2, ![R, 128]⟩ .f32)
  (hsh : ∀ x l w, 0 < w → w < R → row (sh x) l w = row x l (w - 1))
  (hc : (⟨2, ![R, 128]⟩ : Shape).ShapeCasts ⟨2, ![R, 128]⟩) (c : EReal) (p t : Fin 128 → ℕ → EReal)

include hsh in
/-- One step's rows. -/
theorem row_next (pe tt : FVec Ideal ⟨2, ![R, 128]⟩ .f32) (v : FVec Ideal ⟨2, ![R, 128]⟩ .f32 × FVec Ideal ⟨2, ![R, 128]⟩ .f32) (l : Fin 128) {w : ℕ} (h0 : 0 < w) (h : w < R) :
    row (next sh hc (c : Ideal .f32) pe tt v).1 l w = cellv (row v.1 l (w - 1)) (row v.1 l w) (row v.2 l w) (row pe l w - row tt l w * c) := by
  rw [← hsh v.1 l w h0 h, row_of _ _ h, row_of _ _ h, row_of _ _ h, row_of _ _ h, row_of _ _ h, row_of _ _ h]
  unfold next cells close gap top3 sum3
  rw [shapeCast_id]
  rfl

/-- A window that holds diagonal `d` from its row `j` on, `r0` the shifted row of its first row; and the one before, moved. -/
def Win (r0 j d : ℕ) (v : FVec Ideal ⟨2, ![R, 128]⟩ .f32 × FVec Ideal ⟨2, ![R, 128]⟩ .f32) : Prop :=
  (∀ l w, w < R → j ≤ w → r0 + w ≤ 520 → d ≤ r0 + w + 504 → row v.1 l w = diag c (p l) (t l) d (r0 + w))
  ∧ (∀ l w, w < R → j ≤ w → 1 ≤ w → r0 + w ≤ 521 → d ≤ r0 + w + 504 → row v.2 l w = diag c (p l) (t l) (d - 1) (r0 + w - 1))

include hsh in
/-- One step on such a window. -/
theorem win_next {r0 j d : ℕ} (hd : 1 ≤ d) (pe tt : FVec Ideal ⟨2, ![R, 128]⟩ .f32)
    (hp : ∀ l w i, w < R → r0 + w = i + 9 → i < 512 → row pe l w = p l i * c)
    (ht : ∀ l w i m, w < R → r0 + w = i + 9 → d = i + m + 1 → i < 512 → m < 512 → row tt l w = t l m)
    {v : FVec Ideal ⟨2, ![R, 128]⟩ .f32 × FVec Ideal ⟨2, ![R, 128]⟩ .f32} (hv : Win c p t r0 j d v) :
    Win c p t r0 (j + 1) (d + 1) (next sh hc (c : Ideal .f32) pe tt v) := by
  obtain ⟨h1, h2⟩ := hv
  refine ⟨fun l w hw hj hq hd' => ?_, fun l w hw hj hw1 hq hd' => ?_⟩
  · rw [row_next sh hsh hc c pe tt v l (by omega) hw, h1 l w hw (by omega) hq (by omega), h1 l (w - 1) (by omega) (by omega) (by omega) (by omega),
      h2 l w hw (by omega) (by omega) (by omega) (by omega), show r0 + (w - 1) = r0 + w - 1 by omega]
    refine (diag_succ c (p l) (t l) hd (by omega) _ fun i m hi hm => ?_).symm
    rw [hp l w i hw hi (by omega), ht l w i m hw hi hm (by omega) (by omega)]
  · show row (sh v.1) l w = _
    rw [hsh _ _ _ (by omega) hw, h1 l (w - 1) (by omega) (by omega) (by omega) (by omega), show r0 + (w - 1) = r0 + w - 1 by omega, Nat.add_sub_cancel]

include hsh in
/-- Eight steps on such a window. -/
theorem win_next8 {r0 d : ℕ} (hd : 1 ≤ d) (pe t0 t1 t2 t3 t4 t5 t6 t7 : FVec Ideal ⟨2, ![R, 128]⟩ .f32)
    (hp : ∀ l w i, w < R → r0 + w = i + 9 → i < 512 → row pe l w = p l i * c)
    (h0 : ∀ l w i m, w < R → r0 + w = i + 9 → d = i + m + 1 → i < 512 → m < 512 → row t0 l w = t l m)
    (h1 : ∀ l w i m, w < R → r0 + w = i + 9 → d + 1 = i + m + 1 → i < 512 → m < 512 → row t1 l w = t l m)
    (h2 : ∀ l w i m, w < R → r0 + w = i + 9 → d + 2 = i + m + 1 → i < 512 → m < 512 → row t2 l w = t l m)
    (h3 : ∀ l w i m, w < R → r0 + w = i + 9 → d + 3 = i + m + 1 → i < 512 → m < 512 → row t3 l w = t l m)
    (h4 : ∀ l w i m, w < R → r0 + w = i + 9 → d + 4 = i + m + 1 → i < 512 → m < 512 → row t4 l w = t l m)
    (h5 : ∀ l w i m, w < R → r0 + w = i + 9 → d + 5 = i + m + 1 → i < 512 → m < 512 → row t5 l w = t l m)
    (h6 : ∀ l w i m, w < R → r0 + w = i + 9 → d + 6 = i + m + 1 → i < 512 → m < 512 → row t6 l w = t l m)
    (h7 : ∀ l w i m, w < R → r0 + w = i + 9 → d + 7 = i + m + 1 → i < 512 → m < 512 → row t7 l w = t l m)
    {v : FVec Ideal ⟨2, ![R, 128]⟩ .f32 × FVec Ideal ⟨2, ![R, 128]⟩ .f32} (hv : Win c p t r0 0 d v) :
    Win c p t r0 8 (d + 8) (next8 sh hc (c : Ideal .f32) pe t0 t1 t2 t3 t4 t5 t6 t7 v) := by
  unfold next8
  have e1 := win_next sh hsh hc c p t (by omega) pe t0 hp h0 hv
  have e2 := win_next sh hsh hc c p t (by omega) pe t1 hp h1 e1
  have e3 := win_next sh hsh hc c p t (by omega) pe t2 hp h2 e2
  have e4 := win_next sh hsh hc c p t (by omega) pe t3 hp h3 e3
  have e5 := win_next sh hsh hc c p t (by omega) pe t4 hp h4 e4
  have e6 := win_next sh hsh hc c p t (by omega) pe t5 hp h5 e5
  have e7 := win_next sh hsh hc c p t (by omega) pe t6 hp h6 e6
  exact win_next sh hsh hc c p t (by omega) pe t7 hp h7 e7

end Cert.KernelIdeal.Gen

end
-- ==== Proof.Ideal.Trips.lean ====
module

public import proofs.«01_k».proof.Proof.Ideal.Rows
public import proofs.«01_k».proof.Proof.Ideal.Body

/-! The scratch contents over the loop's trips, as the table's diagonals. -/

@[expose] public section

set_option maxRecDepth 16384

noncomputable section

namespace Cert.KernelIdeal.Gen

open Idealize.ShloMosaic

/-- Where block 1 of a trip finds its targets, and when it is left out. -/
theorem off1 : ∀ (k : Fin k0_t1_loop.trips) (j : Fin 8), k0_cond1 k = 1#1 → k0_off1 k (BitVec.ofNat 32 j.val) 0 + j.val + 8 = 1031 - 8 * k.val + 512 ∧ k0_off1 k (BitVec.ofNat 32 j.val) 1 = 0 := by decide +kernel
theorem cond1 : ∀ k : Fin k0_t1_loop.trips, ¬ k0_cond1 k = 1#1 → 8 * k.val + 9 ≤ 512 := by decide +kernel
/-- Where block 2 of a trip finds its targets, and when it is left out. -/
theorem off2 : ∀ (k : Fin k0_t1_loop.trips) (j : Fin 8), k0_cond2 k = 1#1 → k0_off2 k (BitVec.ofNat 32 j.val) 0 + j.val + 8 = 1031 - 8 * k.val + 384 ∧ k0_off2 k (BitVec.ofNat 32 j.val) 1 = 0 := by decide +kernel
theorem cond2 : ∀ k : Fin k0_t1_loop.trips, ¬ k0_cond2 k = 1#1 → 8 * k.val + 9 ≤ 384 ∨ 512 + 512 < 8 * k.val + 2 := by decide +kernel
/-- Where block 3 of a trip finds its targets, and when it is left out. -/
theorem off3 : ∀ (k : Fin k0_t1_loop.trips) (j : Fin 8), k0_cond3 k = 1#1 → k0_off3 k (BitVec.ofNat 32 j.val) 0 + j.val + 8 = 1031 - 8 * k.val + 256 ∧ k0_off3 k (BitVec.ofNat 32 j.val) 1 = 0 := by decide +kernel
theorem cond3 : ∀ k : Fin k0_t1_loop.trips, ¬ k0_cond3 k = 1#1 → 8 * k.val + 9 ≤ 256 ∨ 512 + 384 < 8 * k.val + 2 := by decide +kernel
/-- Where block 4 of a trip finds its targets, and when it is left out. -/
theorem off4 : ∀ (k : Fin k0_t1_loop.trips) (j : Fin 8), k0_cond4 k = 1#1 → k0_off4 k (BitVec.ofNat 32 j.val) 0 + j.val + 8 = 1031 - 8 * k.val + 128 ∧ k0_off4 k (BitVec.ofNat 32 j.val) 1 = 0 := by decide +kernel
theorem cond4 : ∀ k : Fin k0_t1_loop.trips, ¬ k0_cond4 k = 1#1 → 8 * k.val + 9 ≤ 128 ∨ 512 + 256 < 8 * k.val + 2 := by decide +kernel
/-- Where block 5 of a trip finds its targets, and when it is left out. -/
theorem off5 : ∀ (k : Fin k0_t1_loop.trips) (j : Fin 8), k0_cond5 k = 1#1 → k0_off5 k (BitVec.ofNat 32 j.val) 0 + j.val + 8 = 1031 - 8 * k.val + 0 ∧ k0_off5 k (BitVec.ofNat 32 j.val) 1 = 0 := by decide +kernel
theorem cond5 : ∀ k : Fin k0_t1_loop.trips, ¬ k0_cond5 k = 1#1 → 512 + 128 < 8 * k.val + 2 := by decide +kernel

/-- Row `r` of the scratch buffers holds diagonal `d` and, moved down by one, the diagonal before it. -/
def Has (c : EReal) (p t : Fin 128 → ℕ → EReal) (d : ℕ) (s : Scr Ideal) (r : ℕ) : Prop :=
  (∀ l, r ≤ 512 → d ≤ 512 + r → row s.1 l r = diag c (p l) (t l) d (r + 8))
  ∧ (∀ l, r ≤ 513 → d ≤ 512 + r → row s.2 l r = diag c (p l) (t l) (d - 1) (r + 7))

/-- The rows above `b` hold diagonal `d`, the rows from `b` on diagonal `d + 8`. -/
def Upto (c : EReal) (p t : Fin 128 → ℕ → EReal) (d : ℕ) (s : Scr Ideal) (b : ℕ) : Prop :=
  ∀ r, r < 520 → (r < b → Has c p t d s r) ∧ (b ≤ r → Has c p t (d + 8) s r)

section
variable (c : EReal) (p t : Fin 128 → ℕ → EReal)

/-- Rows a block leaves out hold the later diagonal as they are: it has no cell there yet, or none is needed any more. -/
theorem upto_skip {d b0 b1 : ℕ} {s : Scr Ideal} (hb : b0 ≤ b1) (hd : 1 ≤ d) (h : d + 8 ≤ b0 ∨ 512 + b1 < d + 1) (hs : Upto c p t d s b1) : Upto c p t d s b0 := by
  intro r hr
  refine ⟨fun h0 => (hs r hr).1 (by omega), fun h0 => ?_⟩
  by_cases h1 : b1 ≤ r
  · exact (hs r hr).2 h1
  obtain ⟨e1, e2⟩ := (hs r hr).1 (by omega)
  refine ⟨fun l h2 h3 => ?_, fun l h2 h3 => ?_⟩
  · rw [e1 l h2 (by omega), diag_edge _ _ _ (by omega) (by omega), diag_edge _ _ _ (by omega) (by omega)]
  · rw [e2 l h2 (by omega), diag_edge _ _ _ (by omega) (by omega), diag_edge _ _ _ (by omega) (by omega)]

/-- Rows stored that hold the later diagonal. -/
theorem upto_put {R n r0 d : ℕ} (hR : R = n + 8) (cut : FVec Ideal ⟨2, ![R, 128]⟩ .f32 → FVec Ideal ⟨2, ![n, 128]⟩ .f32)
    (hcut : ∀ x l w, w < n → row (cut x) l w = row x l (8 + w)) (s : Scr Ideal) (v : FVec Ideal ⟨2, ![R, 128]⟩ .f32 × FVec Ideal ⟨2, ![R, 128]⟩ .f32)
    (inb : ∀ a, (![r0, 0] : Fin 2 → ℕ) a + (![n, 128] : Fin 2 → ℕ) a ≤ S520x128.size a)
    (hv : Win c p t r0 8 (d + 8) v) (hs : Upto c p t d s (r0 + n)) :
    Upto c p t d (put (Rect.unit (s := S520x128) ![r0, 0] ![n, 128] inb) (cut v.1) s.1, put (Rect.unit (s := S520x128) ![r0, 0] ![n, 128] inb) (cut v.2) s.2) r0 := by
  obtain ⟨v1, v2⟩ := hv
  intro r hr
  by_cases h : r0 ≤ r ∧ r < r0 + n
  · refine ⟨fun h0 => by omega, fun _ => ⟨fun l h2 h3 => ?_, fun l h2 h3 => ?_⟩⟩
    · refine (row_put s.1 (cut v.1) r0 inb l h.1 h.2).trans ?_
      rw [hcut _ _ _ (by omega), v1 l _ (by omega) (by omega) (by omega) (by omega), show r0 + (8 + (r - r0)) = r + 8 by omega]
    · refine (row_put s.2 (cut v.2) r0 inb l h.1 h.2).trans ?_
      rw [hcut _ _ _ (by omega), v2 l _ (by omega) (by omega) (by omega) (by omega) (by omega), show r0 + (8 + (r - r0)) - 1 = r + 7 by omega]
  · have e1 := fun l => row_put_ne s.1 (cut v.1) r0 inb l (w := r) (by omega)
    have e2 := fun l => row_put_ne s.2 (cut v.2) r0 inb l (w := r) (by omega)
    obtain ⟨g1, g2⟩ := hs r hr
    refine ⟨fun h0 => ?_, fun h0 => ?_⟩
    · obtain ⟨g3, g4⟩ := g1 (by omega)
      exact ⟨fun l h2 h3 => (e1 l).trans (g3 l h2 h3), fun l h2 h3 => (e2 l).trans (g4 l h2 h3)⟩
    · obtain ⟨g3, g4⟩ := g2 (by omega)
      exact ⟨fun l h2 h3 => (e1 l).trans (g3 l h2 h3), fun l h2 h3 => (e2 l).trans (g4 l h2 h3)⟩

/-- A window loaded from rows that hold diagonal `d` holds it. -/
theorem win_of_upto {R o r0 d b : ℕ} (ho : r0 = o + 8) (hb : o + R ≤ b) (hb' : b ≤ 520) (s : Scr Ideal)
    (inb : ∀ a, (![o, 0] : Fin 2 → ℕ) a + (![R, 128] : Fin 2 → ℕ) a ≤ S520x128.size a) (hs : Upto c p t d s b) :
    Win c p t r0 0 d ((View.ld s.1 (Rect.unit (s := S520x128) ![o, 0] ![R, 128] inb), View.ld s.2 (Rect.unit (s := S520x128) ![o, 0] ![R, 128] inb)) : FVec Ideal ⟨2, ![R, 128]⟩ .f32 × FVec Ideal ⟨2, ![R, 128]⟩ .f32) := by
  refine ⟨fun l w hw _ hq hd => ?_, fun l w hw _ _ hq hd => ?_⟩
  · refine (row_ld s.1 ![o, 0] o rfl rfl inb l hw).trans ?_
    rw [((hs (o + w) (by omega)).1 (by omega)).1 l (by omega) (by omega), show o + w + 8 = r0 + w by omega]
  · refine (row_ld s.2 ![o, 0] o rfl rfl inb l hw).trans ?_
    rw [((hs (o + w) (by omega)).1 (by omega)).2 l (by omega) (by omega), show o + w + 7 = r0 + w - 1 by omega]

/-- The target rows a step of trip `k` loads. -/
theorem row_targets {R : ℕ} (x2 : Vec Ideal S1552x128 .f32) (hx2 : ∀ l m, m < 512 → row x2 l (1032 - m) = t l m)
    (k : Fin k0_t1_loop.trips) (j : Fin 8) (r0 : ℕ) (off : Fin 2 → ℕ) (h0 : off 0 + j.val + 8 = 1031 - 8 * k.val + r0) (h1 : off 1 = 0)
    (inb : ∀ a, off a + (![R, 128] : Fin 2 → ℕ) a ≤ S1552x128.size a) (l : Fin 128) (w i m : ℕ) (hw : w < R) (hi : r0 + w = i + 9)
    (hm : 8 * k.val + 1 + j.val = i + m + 1) (_ : i < 512) (hm' : m < 512) :
    row (R := R) (View.ld x2 (Rect.unit (s := S1552x128) off ![R, 128] inb)) l w = t l m := by
  have hk : k.val < 128 := k.isLt
  refine (row_ld x2 off _ rfl h1 inb l hw).trans ?_
  rw [show off 0 + w = 1032 - m by omega, hx2 l m hm']

variable (x1 : Vec Ideal S520x128 .f32) (hx1 : ∀ l i, i < 512 → row x1 l (i + 1) = p l i)
  (x2 : Vec Ideal S1552x128 .f32) (hx2 : ∀ l m, m < 512 → row x2 l (1032 - m) = t l m)

include hx1 in
/-- A block's window, loaded, taken eight steps on and stored. -/
theorem upto_run {R n : ℕ} (sh : FVec Ideal ⟨2, ![R, 128]⟩ .f32 → FVec Ideal ⟨2, ![R, 128]⟩ .f32)
    (hsh : ∀ x l w, 0 < w → w < R → row (sh x) l w = row x l (w - 1))
    (cut : FVec Ideal ⟨2, ![R, 128]⟩ .f32 → FVec Ideal ⟨2, ![n, 128]⟩ .f32) (hcut : ∀ x l w, w < n → row (cut x) l w = row x l (8 + w))
    (hc : (⟨2, ![R, 128]⟩ : Shape).ShapeCasts ⟨2, ![R, 128]⟩) (hR : R = n + 8) (d : ℕ) (hd : 1 ≤ d) (s : Scr Ideal) (o r0 : ℕ) (ho : r0 = o + 8) (hb : r0 + n ≤ 520)
    (inb : ∀ a, (![o, 0] : Fin 2 → ℕ) a + (![R, 128] : Fin 2 → ℕ) a ≤ S520x128.size a)
    (inb' : ∀ a, (![r0, 0] : Fin 2 → ℕ) a + (![n, 128] : Fin 2 → ℕ) a ≤ S520x128.size a)
    (hs : Upto c p t d s (r0 + n)) {t0 t1 t2 t3 t4 t5 t6 t7 : FVec Ideal ⟨2, ![R, 128]⟩ .f32}
    (h0 : ∀ l w i m, w < R → r0 + w = i + 9 → d = i + m + 1 → i < 512 → m < 512 → row t0 l w = t l m)
    (h1 : ∀ l w i m, w < R → r0 + w = i + 9 → d + 1 = i + m + 1 → i < 512 → m < 512 → row t1 l w = t l m)
    (h2 : ∀ l w i m, w < R → r0 + w = i + 9 → d + 2 = i + m + 1 → i < 512 → m < 512 → row t2 l w = t l m)
    (h3 : ∀ l w i m, w < R → r0 + w = i + 9 → d + 3 = i + m + 1 → i < 512 → m < 512 → row t3 l w = t l m)
    (h4 : ∀ l w i m, w < R → r0 + w = i + 9 → d + 4 = i + m + 1 → i < 512 → m < 512 → row t4 l w = t l m)
    (h5 : ∀ l w i m, w < R → r0 + w = i + 9 → d + 5 = i + m + 1 → i < 512 → m < 512 → row t5 l w = t l m)
    (h6 : ∀ l w i m, w < R → r0 + w = i + 9 → d + 6 = i + m + 1 → i < 512 → m < 512 → row t6 l w = t l m)
    (h7 : ∀ l w i m, w < R → r0 + w = i + 9 → d + 7 = i + m + 1 → i < 512 → m < 512 → row t7 l w = t l m) :
    Upto c p t d
      (put (Rect.unit (s := S520x128) ![r0, 0] ![n, 128] inb') (cut (next8 sh hc (c : Ideal .f32) (scaled hc (c : Ideal .f32) (View.ld x1 (Rect.unit (s := S520x128) ![o, 0] ![R, 128] inb))) t0 t1 t2 t3 t4 t5 t6 t7
          (View.ld s.1 (Rect.unit (s := S520x128) ![o, 0] ![R, 128] inb), View.ld s.2 (Rect.unit (s := S520x128) ![o, 0] ![R, 128] inb))).1) s.1,
       put (Rect.unit (s := S520x128) ![r0, 0] ![n, 128] inb') (cut (next8 sh hc (c : Ideal .f32) (scaled hc (c : Ideal .f32) (View.ld x1 (Rect.unit (s := S520x128) ![o, 0] ![R, 128] inb))) t0 t1 t2 t3 t4 t5 t6 t7
          (View.ld s.1 (Rect.unit (s := S520x128) ![o, 0] ![R, 128] inb), View.ld s.2 (Rect.unit (s := S520x128) ![o, 0] ![R, 128] inb))).2) s.2) r0 := by
  refine upto_put c p t hR cut hcut s _ inb' (win_next8 sh hsh hc c p t hd _ t0 t1 t2 t3 t4 t5 t6 t7 ?_ h0 h1 h2 h3 h4 h5 h6 h7
    (win_of_upto c p t ho (b := r0 + n) (by omega) hb s inb hs)) hs
  intro l w i hw hi hi'
  refine (row_scaled hc c _ l hw).trans ?_
  rw [show row (R := R) (View.ld x1 (Rect.unit (s := S520x128) ![o, 0] ![R, 128] inb)) l w = row x1 l (o + w) from row_ld x1 ![o, 0] o rfl rfl inb l hw,
    show o + w = i + 1 by omega, hx1 l i hi']

include hx1 hx2

/-- Block 1 takes its rows eight diagonals on. -/
theorem upto_blk1 (k : Fin k0_t1_loop.trips) (s : Scr Ideal) (hs : Upto c p t (8 * k.val + 1) s 520) : Upto c p t (8 * k.val + 1) (blk1 (c : Ideal .f32) k x1 x2 s) 512 := by
  unfold blk1
  by_cases h : k0_cond1 k = 1#1
  · rw [dif_pos h]
    dsimp only
    rw [val1_eq]
    have T := fun (j : Fin 8) => row_targets (R := 16) t x2 hx2 k j 512 (k0_off1 k (BitVec.ofNat 32 j.val)) (off1 k j h).1 (off1 k j h).2 (k0_off1_inb k h j)
    exact upto_run c p t x1 hx1 sh16 row_sh16 cut16 row_cut16 _ rfl _ (by omega) s 504 512 rfl (by omega) _ _ hs (T 0) (T 1) (T 2) (T 3) (T 4) (T 5) (T 6) (T 7)
  · rw [dif_neg h]
    exact upto_skip c p t (by omega) (by omega) (by have := cond1 k h; omega) hs

/-- Block 2 takes its rows eight diagonals on. -/
theorem upto_blk2 (k : Fin k0_t1_loop.trips) (s : Scr Ideal) (hs : Upto c p t (8 * k.val + 1) s 512) : Upto c p t (8 * k.val + 1) (blk2 (c : Ideal .f32) k x1 x2 s) 384 := by
  unfold blk2
  by_cases h : k0_cond2 k = 1#1
  · rw [dif_pos h]
    dsimp only
    rw [val2_eq]
    have T := fun (j : Fin 8) => row_targets (R := 136) t x2 hx2 k j 384 (k0_off2 k (BitVec.ofNat 32 j.val)) (off2 k j h).1 (off2 k j h).2 (k0_off2_inb k h j)
    exact upto_run c p t x1 hx1 sh136 row_sh136 cut136 row_cut136 _ rfl _ (by omega) s 376 384 rfl (by omega) _ _ hs (T 0) (T 1) (T 2) (T 3) (T 4) (T 5) (T 6) (T 7)
  · rw [dif_neg h]
    exact upto_skip c p t (by omega) (by omega) (by have := cond2 k h; omega) hs

/-- Block 3 takes its rows eight diagonals on. -/
theorem upto_blk3 (k : Fin k0_t1_loop.trips) (s : Scr Ideal) (hs : Upto c p t (8 * k.val + 1) s 384) : Upto c p t (8 * k.val + 1) (blk3 (c : Ideal .f32) k x1 x2 s) 256 := by
  unfold blk3
  by_cases h : k0_cond3 k = 1#1
  · rw [dif_pos h]
    dsimp only
    rw [val3_eq, val2_eq]
    have T := fun (j : Fin 8) => row_targets (R := 136) t x2 hx2 k j 256 (k0_off3 k (BitVec.ofNat 32 j.val)) (off3 k j h).1 (off3 k j h).2 (k0_off3_inb k h j)
    exact upto_run c p t x1 hx1 sh136 row_sh136 cut136 row_cut136 _ rfl _ (by omega) s 248 256 rfl (by omega) _ _ hs (T 0) (T 1) (T 2) (T 3) (T 4) (T 5) (T 6) (T 7)
  · rw [dif_neg h]
    exact upto_skip c p t (by omega) (by omega) (by have := cond3 k h; omega) hs

/-- Block 4 takes its rows eight diagonals on. -/
theorem upto_blk4 (k : Fin k0_t1_loop.trips) (s : Scr Ideal) (hs : Upto c p t (8 * k.val + 1) s 256) : Upto c p t (8 * k.val + 1) (blk4 (c : Ideal .f32) k x1 x2 s) 128 := by
  unfold blk4
  by_cases h : k0_cond4 k = 1#1
  · rw [dif_pos h]
    dsimp only
    rw [val4_eq, val2_eq]
    have T := fun (j : Fin 8) => row_targets (R := 136) t x2 hx2 k j 128 (k0_off4 k (BitVec.ofNat 32 j.val)) (off4 k j h).1 (off4 k j h).2 (k0_off4_inb k h j)
    exact upto_run c p t x1 hx1 sh136 row_sh136 cut136 row_cut136 _ rfl _ (by omega) s 120 128 rfl (by omega) _ _ hs (T 0) (T 1) (T 2) (T 3) (T 4) (T 5) (T 6) (T 7)
  · rw [dif_neg h]
    exact upto_skip c p t (by omega) (by omega) (by have := cond4 k h; omega) hs

/-- Block 5 takes its rows eight diagonals on. -/
theorem upto_blk5 (hc' : c = (Named.named κ "s" 0x404A62C2#32 : Ideal .f32)) (k : Fin k0_t1_loop.trips) (s : Scr Ideal) (hs : Upto c p t (8 * k.val + 1) s 128) :
    Upto c p t (8 * k.val + 1) (blk5 (c : Ideal .f32) k x1 x2 s) 0 := by
  unfold blk5
  by_cases h : k0_cond5 k = 1#1
  · rw [dif_pos h]
    dsimp only
    subst hc'
    rw [val5_eq]
    have T := fun (j : Fin 8) => row_targets (R := 136) t x2 hx2 k j 0 (k0_off5 k (BitVec.ofNat 32 j.val)) (off5 k j h).1 (off5 k j h).2 (k0_off5_inb k h j)
    refine upto_put _ p t (n := 128) (r0 := 0) rfl cut136 row_cut136 s _ inb_S520x128_S128x128_0_0
      (win_next8 sh136 row_sh136 _ _ p t (d := 8 * k.val + 1) (by omega) _ _ _ _ _ _ _ _ _ ?_ (T 0) (T 1) (T 2) (T 3) (T 4) (T 5) (T 6) (T 7) ⟨?_, ?_⟩) hs
    · intro l w i hw hi hi'
      rw [row_scaled5 _ _ l (by omega) hw]
      rw [show row (R := 128) (View.ld x1 (Rect.unit (s := S520x128) ![0, 0] ![128, 128] inb_S520x128_S128x128_0_0)) l (w - 8) = row x1 l (0 + (w - 8)) from row_ld x1 ![0, 0] 0 rfl rfl _ l (by omega),
        show 0 + (w - 8) = i + 1 by omega, hx1 l i hi']
    · intro l w hw _ hq hd
      by_cases h8 : w < 8
      · rw [row_under_lt _ _ _ h8, row_of _ _ h8, diag_low _ _ _ (by omega)]
        rfl
      · rw [row_under_ge _ _ _ (by omega) hw]
        rw [show row (R := 128) (View.ld s.1 (Rect.unit (s := S520x128) ![0, 0] ![128, 128] inb_S520x128_S128x128_0_0)) l (w - 8) = row s.1 l (0 + (w - 8)) from row_ld s.1 ![0, 0] 0 rfl rfl _ l (by omega),
          ((hs (0 + (w - 8)) (by omega)).1 (by omega)).1 l (by omega) (by omega), show 0 + (w - 8) + 8 = 0 + w by omega]
    · intro l w hw _ hw1 hq hd
      by_cases h8 : w < 8
      · rw [row_under_lt _ _ _ h8, row_of _ _ h8, diag_low _ _ _ (by omega)]
        rfl
      · rw [row_under_ge _ _ _ (by omega) hw]
        rw [show row (R := 128) (View.ld s.2 (Rect.unit (s := S520x128) ![0, 0] ![128, 128] inb_S520x128_S128x128_0_0)) l (w - 8) = row s.2 l (0 + (w - 8)) from row_ld s.2 ![0, 0] 0 rfl rfl _ l (by omega),
          ((hs (0 + (w - 8)) (by omega)).1 (by omega)).2 l (by omega) (by omega), show 0 + (w - 8) + 7 = 0 + w - 1 by omega]
  · rw [dif_neg h]
    exact upto_skip c p t (by omega) (by omega) (by have := cond5 k h; omega) hs

end

/-- The lane multiplier, as a number. -/
abbrev root : EReal := (Named.named κ "s" 0x404A62C2#32 : Ideal .f32)

section
variable (p t : Fin 128 → ℕ → EReal) (x1 : Vec Ideal S520x128 .f32) (hx1 : ∀ l i, i < 512 → row x1 l (i + 1) = p l i)
  (x2 : Vec Ideal S1552x128 .f32) (hx2 : ∀ l m, m < 512 → row x2 l (1032 - m) = t l m)

include hx1 hx2 in
/-- A trip takes every row eight diagonals on. -/
theorem has_trip (k : Fin k0_t1_loop.trips) (s : Scr Ideal) (hs : ∀ r, r < 520 → Has root p t (8 * k.val + 1) s r) :
    ∀ r, r < 520 → Has root p t (8 * k.val + 9) (trip mult k x1 x2 s) r := by
  have h0 : Upto root p t (8 * k.val + 1) s 520 := fun r hr => ⟨fun _ => hs r hr, fun h => by omega⟩
  have h1 := upto_blk1 root p t x1 hx1 x2 hx2 k s h0
  have h2 := upto_blk2 root p t x1 hx1 x2 hx2 k _ h1
  have h3 := upto_blk3 root p t x1 hx1 x2 hx2 k _ h2
  have h4 := upto_blk4 root p t x1 hx1 x2 hx2 k _ h3
  have h5 := upto_blk5 root p t x1 hx1 x2 hx2 rfl k _ h4
  exact fun r hr => (h5 r hr).2 (Nat.zero_le r)

/-- The second buffer starts with zero in row 1, -/
theorem start_one (l : Fin 128) (hr : 1 < 520) : (scr₀ (F := Ideal)).2 (ix2 ⟨1, hr⟩ l) = (0 : EReal) := by
  show (shapeCast S520x128 (select (cmpi .eq (iota .tc S520x128 32 [0] iota_S520x128_d0_w32) (k0_pay135 : IVec S520x128 32)) _ _) shapeCasts_S520x128_S520x128 (ix2 ⟨1, hr⟩ l) : EReal) = 0
  rw [shapeCast_id, select, cmpi_apply, iota_apply]
  exact Ideal.ofBits_zero_f32

/-- and the fill everywhere else. -/
theorem start_other (l : Fin 128) (r : ℕ) (hr : r < 520) (h : r ≠ 1) : (scr₀ (F := Ideal)).2 (ix2 ⟨r, hr⟩ l) = (⊥ : EReal) := by
  show (shapeCast S520x128 (select (cmpi .eq (iota .tc S520x128 32 [0] iota_S520x128_d0_w32) (k0_pay135 : IVec S520x128 32)) _ _) shapeCasts_S520x128_S520x128 (ix2 ⟨r, hr⟩ l) : EReal) = ⊥
  rw [shapeCast_id, select, cmpi_apply, iota_apply]
  have e : IntOp.cmpi .eq (BitVec.ofNat 32 (List.foldl (fun n a => n * S520x128.size a + (ix2 (⟨r, hr⟩ : Fin 520) l a).val) 0 [0])) ((k0_pay135 : IVec S520x128 32) (ix2 ⟨r, hr⟩ l)) = 0#1 := by
    show IntOp.cmpi .eq (BitVec.ofNat 32 (0 * 520 + r)) 1#32 = 0#1
    have hb : BitVec.ofNat 32 (0 * 520 + r) ≠ 1#32 := fun hb => h (by
      have := congrArg BitVec.toNat hb
      simp only [BitVec.toNat_ofNat] at this
      omega)
    rw [Nat.zero_mul, Nat.zero_add] at hb
    unfold IntOp.cmpi
    dsimp only
    rw [Nat.zero_mul, Nat.zero_add, beq_eq_false_iff_ne.mpr hb]
    rfl
  rw [e]
  rfl

/-- The loop starts with the first diagonal and the one before it. -/
theorem has_start (r : ℕ) (hr : r < 520) : Has root p t 1 scr₀ r := by
  refine ⟨fun l h1 _ => ?_, fun l h1 _ => ?_⟩
  · have e : row (scr₀ (F := Ideal)).1 l r = ⊥ := by
      rw [row_of _ _ hr]
      rfl
    rw [e]
    rcases Nat.lt_or_ge r 1 with h | h
    · obtain rfl : r = 0 := by omega
      rw [diag_in _ _ _ (i := 0) (by omega), tab_top _ _ _ (by omega)]
    · rw [diag_edge _ _ _ (by omega) (by omega)]
  · by_cases h : r = 1
    · subst h
      rw [row_of _ _ hr, show 1 + 7 = 0 + 8 from rfl, diag_in _ _ _ (by omega), tab_zero]
      exact start_one l hr
    · have e : row (scr₀ (F := Ideal)).2 l r = ⊥ := by
        rw [row_of _ _ hr]
        exact start_other l r hr h
      rw [e]
      rcases Nat.lt_or_ge r 1 with h' | h'
      · rw [diag_low _ _ _ (by omega)]
      · rw [diag_edge _ _ _ (by omega) (by omega)]

include hx1 hx2 in
/-- After `n` trips every row holds its diagonal. -/
theorem has_scr (n : ℕ) (hn : n ≤ 128) : ∀ r, r < 520 → Has root p t (8 * n + 1) (scr x1 x2 n) r := by
  induction n with
  | zero => exact fun r hr => has_start p t r hr
  | succ n ih =>
    have h : n < k0_t1_loop.trips := by
      show n < 128
      omega
    rw [show scr x1 x2 (n + 1) = trip (mult (F := Ideal)) ⟨n, h⟩ x1 x2 (scr x1 x2 n) from dif_pos h]
    exact has_trip p t x1 hx1 x2 hx2 ⟨n, h⟩ _ (ih (by omega))

include hx1 hx2 in
/-- What the loop leaves in row 513 of the second buffer is the table's last cell. -/
theorem row_scr (l : Fin 128) : row (scr x1 x2 k0_t1_loop.trips).2 l 513 = tab root (p l) (t l) 512 512 := by
  have h := (has_scr p t x1 hx1 x2 hx2 128 (le_refl _) 513 (by omega)).2 l (le_refl _) (by omega)
  exact h.trans (diag_in root (p l) (t l) (d := 1024) (i := 512) (by omega))

end

end Cert.KernelIdeal.Gen

end
-- ==== Proof.Ideal.Out.lean ====
module

public import proofs.«01_k».proof.Proof.Ideal.Corr
public import proofs.«01_k».proof.Proof.Ideal.Frame
public import proofs.«01_k».proof.Proof.Ideal.Trips

/-! The first two rows of the block the body leaves in the output. -/

@[expose] public section

set_option maxRecDepth 16384

noncomputable section

namespace Cert.KernelIdeal.Gen

open Idealize.ShloMosaic

/-- A load of the whole array reads it. -/
theorem ld_all (x : FVec Ideal S512x128 .f32) :
    View.ld (Val := Elt Ideal) (e' := .f32) x (Rect.unit (s := S512x128) ![0, 0] S512x128.size inb_S512x128_S512x128_0_0) = x := by
  funext j
  refine View.ld_unit_apply_of (S := S512x128) (Val := Elt Ideal) (e := .f32) x ![0, 0] S512x128.size inb_S512x128_S512x128_0_0 j j fun a => ?_
  fin_cases a <;> exact (Nat.zero_add _).symm

/-- Under the last store of a row, what it stored. -/
theorem canon_row (o : ℕ) (inb : ∀ a, (![o, 0] : Fin 2 → ℕ) a + S1x128.size a ≤ S8x128.size a) (w : FVec Ideal S1x128 .f32) (L : List (View.Piece (Elt Ideal) S8x128 .f32))
    (r : Fin 8) (l : Fin 128) (h : r.val = o) :
    View.canon ((⟨Rect.unit (s := S8x128) ![o, 0] S1x128.size inb, w⟩ : View.Piece (Elt Ideal) S8x128 .f32) :: L) (ix2 r l) = w (ix2 0 l) := by
  have e : (Rect.unit (s := S8x128) ![o, 0] S1x128.size inb).emb (ix2 0 l) = ix2 r l := by
    refine Rect.emb_eq_of_coords _ _ _ fun a => ?_
    fin_cases a
    · show r.val = o + 1 * 0
      omega
    · show l.val = 0 + 1 * l.val
      omega
  rw [← e]
  exact View.canon_cons_emb (Val := Elt Ideal) (e := .f32) (Rect.unit (s := S8x128) ![o, 0] S1x128.size inb) w L (ix2 0 l)

/-- Above the last store's rows, the earlier stores. -/
theorem canon_above (o : ℕ) (sz : Fin 2 → ℕ) (inb : ∀ a, (![o, 0] : Fin 2 → ℕ) a + sz a ≤ S8x128.size a) (w : (⟨2, sz⟩ : Shape).Idx → Elt Ideal .f32) (L : List (View.Piece (Elt Ideal) S8x128 .f32))
    (r : Fin 8) (l : Fin 128) (h : r.val < o) :
    View.canon ((⟨Rect.unit (s := S8x128) ![o, 0] sz inb, w⟩ : View.Piece (Elt Ideal) S8x128 .f32) :: L) (ix2 r l) = View.canon L (ix2 r l) := by
  refine View.canon_cons_of_not_mem _ _ ?_
  rw [Rect.mem_set_unit]
  exact fun hm => absurd (show o ≤ r.val from (hm 0).1) (by omega)

section
variable (x1 : FVec Ideal S520x128 .f32) (x2 : FVec Ideal S1552x128 .f32) (x3 x4 : FVec Ideal S512x128 .f32)

/-- Row 1 of the output block: the summed correlations. -/
theorem outBlock_corr (l : Fin 128) : (outBlock (F := Ideal) x1 x2 x3 x4 (ix2 1 l) : EReal) = ∑ l, pears (fun i => x3 (ix2 i l)) (fun i => x4 (ix2 i l)) := by
  unfold outBlock pieces
  rw [View.read_writes_junk_eq_canon]
  refine (canon_above 2 _ _ _ _ 1 l (by decide)).trans ((canon_row 1 _ _ _ 1 l rfl).trans ?_)
  unfold corr
  rw [ld_all, ld_all]
  exact corr_at x3 x4

/-- Row 0 of the output block: the sum of what the loop leaves in row 513. -/
theorem outBlock_sum (l : Fin 128) : (outBlock (F := Ideal) x1 x2 x3 x4 (ix2 0 l) : EReal) = ∑ l, row (R := 520) (scr (F := Ideal) x1 x2 k0_t1_loop.trips).2 l 513 := by
  unfold outBlock pieces
  rw [View.read_writes_junk_eq_canon]
  refine (canon_above 2 _ _ _ _ 0 l (by decide)).trans ((canon_above 1 _ _ _ _ 0 l (by decide)).trans ((canon_row 0 _ _ _ 0 l rfl).trans ((pay9_at _ l).trans (Finset.sum_congr rfl fun l _ => ?_))))
  refine (row_of (R := 1) _ l Nat.one_pos).symm.trans ?_
  exact row_ld _ ![513, 0] 513 rfl rfl inb_S520x128_S1x128_513_0 l Nat.one_pos

end

end Cert.KernelIdeal.Gen

end
-- ==== Proof.Ideal.Entry.lean ====
module

public import proofs.«01_k».proof.Proof.Ideal.Launch
public import proofs.«01_k».proof.Proof.Loss
public import Idealize.ShloMosaic.Lib.Pointwise
public import Idealize.ShloMosaic.Lib.Claim
public import Idealize.ShloMosaic.Lib.StableHlo.RunRead
public import Idealize.ShloMosaic.Lib.Pipeline.ValueKit

/-! What the region finds in its four operands: the two arguments transposed, the predictions below a copy of their
first row, the targets upside down between zeros. -/

@[expose] public section

set_option maxRecDepth 16384

noncomputable section

namespace Cert.KernelIdeal.Gen

open Idealize.ShloMosaic Idealize.ShloMosaic.TcCoe Idealize.ShloMosaic.Tactic Idealize.ShloMosaic.StableHlo

variable (m : (ℓ : Loc nD τ sig) → Buf (Elt Ideal) ℓ) (c : Dev nD)

/-- The two arguments, one series per row. -/
def preds (b : Fin 256) (i : Fin 512) : EReal := (m ((c.tc : Thread nD τ).loc main_arg0) : FVec Ideal S256x512 .f32) (ix2 b i)
def targets (b : Fin 256) (i : Fin 512) : EReal := (m ((c.tc : Thread nD τ).loc main_arg1) : FVec Ideal S256x512 .f32) (ix2 b i)

theorem transpose_at (x : FVec Ideal S256x512 .f32) (i : Fin 512) (b : Fin 256) :
    transpose S512x256 [1, 0] x transposes_S256x512_S512x256_1_0 (ix2 i b) = x (ix2 b i) := by
  pointwise

theorem upsideDown_at (x : FVec Ideal S256x512 .f32) (i : Fin 512) (b : Fin 256) :
    transpose S512x256 [1, 0] (Host.reverse [1] x) transposes_S256x512_S512x256_1_0 (ix2 i b) = x (ix2 b i.rev) := by
  pointwise
  rfl

theorem between₅₂₀ (x : FVec Ideal S1x256 .f32) (y : FVec Ideal S512x256 .f32) (z : FVec Ideal S7x256 .f32) (r : Fin 520) (i : Fin 512) (h : r.val = i.val + 1) (b : Fin 256) :
    concatenate S520x256 0 [⟨S1x256, x⟩, ⟨S512x256, y⟩, ⟨S7x256, z⟩] concatenates_S1x256_S512x256_S7x256_S520x256_d0 (ix2 r b) = y (ix2 i b) := by
  pointwise
  rw [dif_neg (by omega), dif_pos (by omega)]
  exact congrArg (fun k => y (ix2 k b)) (Fin.ext (by show r.val - 1 = i.val; omega))

theorem between₁₅₅₂ (x : FVec Ideal S521x256 .f32) (y : FVec Ideal S512x256 .f32) (z : FVec Ideal S519x256 .f32) (r : Fin 1552) (i : Fin 512) (h : r.val = i.val + 521) (b : Fin 256) :
    concatenate S1552x256 0 [⟨S521x256, x⟩, ⟨S512x256, y⟩, ⟨S519x256, z⟩] concatenates_S521x256_S512x256_S519x256_S1552x256_d0 (ix2 r b) = y (ix2 i b) := by
  pointwise
  rw [dif_neg (by omega), dif_pos (by omega)]
  exact congrArg (fun k => y (ix2 k b)) (Fin.ext (by show r.val - 521 = i.val; omega))

theorem entry_v0 : @Eq (FVec Ideal S512x256 .f32) (V m c main_call0_v0) (transpose S512x256 [1, 0] (m ((c.tc : Thread nD τ).loc main_arg0) : FVec Ideal S256x512 .f32) transposes_S256x512_S512x256_1_0) := by
  entry_read
  first | done | rfl

theorem entry_v1 : @Eq (FVec Ideal S512x256 .f32) (V m c main_call0_v1) (transpose S512x256 [1, 0] (m ((c.tc : Thread nD τ).loc main_arg1) : FVec Ideal S256x512 .f32) transposes_S256x512_S512x256_1_0) := by
  entry_read
  first | done | rfl

theorem entry_v6 : @Eq (FVec Ideal S520x256 .f32) (V m c main_call0_v6)
    (concatenate S520x256 0 [⟨S1x256, extractStridedSlice S1x256 ![0, 0] (transpose S512x256 [1, 0] (m ((c.tc : Thread nD τ).loc main_arg0) : FVec Ideal S256x512 .f32) transposes_S256x512_S512x256_1_0) slices_S512x256_S1x256_0_0⟩,
      ⟨S512x256, transpose S512x256 [1, 0] (m ((c.tc : Thread nD τ).loc main_arg0) : FVec Ideal S256x512 .f32) transposes_S256x512_S512x256_1_0⟩,
      ⟨S7x256, broadcastInDim S7x256 ![] bcast_S_S7x256 (constant (F := Ideal) S_ .f32 0x00000000#32)⟩] concatenates_S1x256_S512x256_S7x256_S520x256_d0) := by
  show StableHlo.after (List.flatten [hostOps0]) _ _ = _
  simp only [hostOps0, List.flatten_cons, List.flatten_nil, List.append_nil]
  after_reads_simp
  first | done | rfl

theorem entry_v9 : @Eq (FVec Ideal S1552x256 .f32) (V m c main_call0_v9)
    (concatenate S1552x256 0 [⟨S521x256, broadcastInDim S521x256 ![] bcast_S_S521x256 (constant (F := Ideal) S_ .f32 0x00000000#32)⟩,
      ⟨S512x256, transpose S512x256 [1, 0] (Host.reverse [1] (m ((c.tc : Thread nD τ).loc main_arg1) : FVec Ideal S256x512 .f32)) transposes_S256x512_S512x256_1_0⟩,
      ⟨S519x256, broadcastInDim S519x256 ![] bcast_S_S519x256 (constant (F := Ideal) S_ .f32 0x00000000#32)⟩] concatenates_S521x256_S512x256_S519x256_S1552x256_d0) := by
  show StableHlo.after (List.flatten [hostOps0]) _ _ = _
  simp only [hostOps0, List.flatten_cons, List.flatten_nil, List.append_nil]
  after_reads_simp
  first | done | rfl

/-! ## At an index -/

theorem v0_at (i : Fin 512) (b : Fin 256) : (V m c main_call0_v0 : FVec Ideal S512x256 .f32) (ix2 i b) = preds m c b i := by
  rw [entry_v0]
  exact transpose_at _ i b
theorem v1_at (i : Fin 512) (b : Fin 256) : (V m c main_call0_v1 : FVec Ideal S512x256 .f32) (ix2 i b) = targets m c b i := by
  rw [entry_v1]
  exact transpose_at _ i b
theorem v6_at (r : Fin 520) (i : Fin 512) (h : r.val = i.val + 1) (b : Fin 256) : (V m c main_call0_v6 : FVec Ideal S520x256 .f32) (ix2 r b) = preds m c b i := by
  rw [entry_v6, between₅₂₀ _ _ _ r i h b]
  exact transpose_at _ i b
theorem v9_at (r : Fin 1552) (i : Fin 512) (h : r.val = 1032 - i.val) (b : Fin 256) : (V m c main_call0_v9 : FVec Ideal S1552x256 .f32) (ix2 r b) = targets m c b i := by
  rw [entry_v9, between₁₅₅₂ _ _ _ r i.rev (by rw [Fin.val_rev]; omega) b, upsideDown_at, Fin.rev_rev]
  rfl

end Cert.KernelIdeal.Gen

end
-- ==== Proof.Ideal.Blocks.lean ====
module

public import proofs.«01_k».proof.Proof.Ideal.Entry
public import proofs.«01_k».proof.Proof.Ideal.Rows

/-! The windows' blocks: the region's operands, 128 pairs at a time. -/

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ) (c : Dev nD)

/-- The `l`-th pair of the point `t`. -/
def pair (t : Fin 2) (l : Fin 128) : Fin 256 := ⟨128 * t.val + l.val, by omega⟩

theorem index_all : ∀ t : Fin grid0.N, win0_0.index t = ![0, t.val] ∧ win0_1.index t = ![0, t.val] ∧ win0_2.index t = ![0, t.val] ∧ win0_3.index t = ![0, t.val] ∧ win0_4.index t = ![t.val, 0] := by
  decide +kernel

theorem blk2_at (t : Fin cfg0.N) (i : Fin 512) (l : Fin 128) : (iblk m c 2 t : FVec Ideal S512x128 .f32) (ix2 i l) = preds m c (pair t l) i := by
  refine Eq.trans ?_ (v0_at m c i (pair t l))
  blk_ext [iblk, (index_all t).2.2.1, pair]

theorem blk3_at (t : Fin cfg0.N) (i : Fin 512) (l : Fin 128) : (iblk m c 3 t : FVec Ideal S512x128 .f32) (ix2 i l) = targets m c (pair t l) i := by
  refine Eq.trans ?_ (v1_at m c i (pair t l))
  blk_ext [iblk, (index_all t).2.2.2.1, pair]

theorem blk0_at (t : Fin cfg0.N) (r : Fin 520) (i : Fin 512) (h : r.val = i.val + 1) (l : Fin 128) : (iblk m c 0 t : FVec Ideal S520x128 .f32) (ix2 r l) = preds m c (pair t l) i := by
  refine Eq.trans ?_ (v6_at m c r i h (pair t l))
  blk_ext [iblk, (index_all t).1, pair]

theorem blk1_at (t : Fin cfg0.N) (r : Fin 1552) (i : Fin 512) (h : r.val = 1032 - i.val) (l : Fin 128) : (iblk m c 1 t : FVec Ideal S1552x128 .f32) (ix2 r l) = targets m c (pair t l) i := by
  refine Eq.trans ?_ (v9_at m c r i h (pair t l))
  blk_ext [iblk, (index_all t).2.1, pair]

end Cert.KernelIdeal.Gen

end
-- ==== Proof.Ideal.Tail.lean ====
module

public import proofs.«01_k».proof.Proof.Ideal.Entry

/-! The host operations after the region: the result from the array the kernel leaves. -/

@[expose] public section

set_option maxRecDepth 16384

noncomputable section

namespace Cert.KernelIdeal.Gen

open Idealize.ShloMosaic Idealize.ShloMosaic.TcCoe Idealize.ShloMosaic.Tactic Idealize.ShloMosaic.StableHlo

/-- The two sums of the blocks' rows. -/
theorem sum0_at (x : FVec Ideal S16x128 .f32) :
    Host.reduceAdd (shapeCast S2 (extractStridedSlice S2x1x1 ![0, 0, 0] (shapeCast S2x8x128 x shapeCasts_S16x128_S2x8x128) slices_S2x8x128_S2x1x1_0_0_0) shapeCasts_S2x1x1_S2) (constant S_ .f32 0x00000000#32) reducesTo_S2_S_d0 h_S_ ix0
      = (x (ix2 0 0) + x (ix2 8 0) : EReal) := by
  pointwise
  exact Fin.sum_univ_two _

theorem sum1_at (x : FVec Ideal S16x128 .f32) :
    Host.reduceAdd (shapeCast S2 (extractStridedSlice S2x1x1 ![0, 1, 0] (shapeCast S2x8x128 x shapeCasts_S16x128_S2x8x128) slices_S2x8x128_S2x1x1_0_1_0) shapeCasts_S2x1x1_S2) (constant S_ .f32 0x00000000#32) reducesTo_S2_S_d0 h_S_ ix0
      = (x (ix2 1 0) + x (ix2 9 0) : EReal) := by
  pointwise
  exact Fin.sum_univ_two _

/-- The result buffer after them. -/
theorem tail_eq (W : Valuation τ sig (Elt Ideal)) : @Eq (FVec Ideal S_ .f32) (StableHlo.after (List.flatten [hostOps1]) W (Proc.devRef .tc main_v0))
    (addf (mulf (constant S_ .f32 0x3E99999A#32) (Host.divf (Host.negf
        (Host.reduceAdd (shapeCast S2 (extractStridedSlice S2x1x1 ![0, 0, 0] (shapeCast S2x8x128 (W (Proc.devRef .tc main_call0_v10) : FVec Ideal S16x128 .f32) shapeCasts_S16x128_S2x8x128) slices_S2x8x128_S2x1x1_0_0_0) shapeCasts_S2x1x1_S2) (constant S_ .f32 0x00000000#32) reducesTo_S2_S_d0 h_S_))
        (constant S_ .f32 0x45200000#32)))
      (mulf (constant S_ .f32 0x3F333333#32) (subf (constant S_ .f32 0x3F800000#32) (Host.divf
        (Host.reduceAdd (shapeCast S2 (extractStridedSlice S2x1x1 ![0, 1, 0] (shapeCast S2x8x128 (W (Proc.devRef .tc main_call0_v10) : FVec Ideal S16x128 .f32) shapeCasts_S16x128_S2x8x128) slices_S2x8x128_S2x1x1_0_1_0) shapeCasts_S2x1x1_S2) (constant S_ .f32 0x00000000#32) reducesTo_S2_S_d0 h_S_)
        (constant S_ .f32 0x43800000#32))))) := by
  simp only [hostOps1, List.flatten_cons, List.flatten_nil, List.append_nil]
  after_reads_simp
  first | done | rfl

theorem blend_at (d q : FVec Ideal S_ .f32) :
    addf (mulf (constant S_ .f32 0x3E99999A#32) (Host.divf (Host.negf d) (constant S_ .f32 0x45200000#32))) (mulf (constant S_ .f32 0x3F333333#32) (subf (constant S_ .f32 0x3F800000#32) (Host.divf q (constant S_ .f32 0x43800000#32)))) ix0
      = blend (Ideal.div (-(d ix0)) (Ideal.ofBits .f32 0x45200000#32)) (q ix0) := rfl

/-- The result from the array's first two rows of each block. -/
theorem tail_at (W : Valuation τ sig (Elt Ideal)) (x : FVec Ideal S16x128 .f32) (h : (W (Proc.devRef .tc main_call0_v10) : FVec Ideal S16x128 .f32) = x) :
    (StableHlo.after (List.flatten [hostOps1]) W (Proc.devRef .tc main_v0) : FVec Ideal S_ .f32) ix0
      = blend (Ideal.div (-(x (ix2 0 0) + x (ix2 8 0))) (Ideal.ofBits .f32 0x45200000#32)) (x (ix2 1 0) + x (ix2 9 0)) := by
  subst h
  rw [tail_eq, blend_at, sum0_at, sum1_at]

end Cert.KernelIdeal.Gen

end
-- ==== Proof.Ideal.Value.lean ====
module

public import proofs.«01_k».proof.Proof.Ideal.Out
public import proofs.«01_k».proof.Proof.Ideal.Blocks
public import proofs.«01_k».proof.Proof.Ideal.Tail

/-! The kernel's result is the loss of its arguments. -/

@[expose] public section

set_option maxRecDepth 16384

noncomputable section

namespace Cert.KernelIdeal.Gen

open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- What the two named constants make of the table's scale. -/
theorem root_eq : root = ((Real.sqrt 10 : ℝ) : EReal) := rfl

/-- The point whose block holds a row of the output. -/
def pt (i : Fin 16) : Fin cfg0.N := ⟨i.val / 8, by show i.val / 8 < 2; omega⟩

/-- The output array after the run: the points' blocks, one below the other. -/
def stacked : FVec Ideal S16x128 .f32 := fun i => outsAt0 m c (pt (i 0)) (ix2 ⟨(i 0).val % 8, Nat.mod_lt _ (by omega)⟩ (i 1))

theorem stacked_eq : (dats m 0 c).arrAt 4 cfg0.N = stacked m c := by
  refine (dats m 0 c).arrAt_eq_of_covers 4 _ (by decide +kernel) fun t hf y => ?_
  rw [after0_4]
  unfold stacked
  have h0 : ((((cfg0.win 4).blk t).view.emb y) 0 : ℕ) = t.val * 8 + (y 0).val := by
    blk_simp [(index_all t).2.2.2.2]
  have h1 : ((((cfg0.win 4).blk t).view.emb y) 1 : ℕ) = (y 1).val := by
    blk_simp [(index_all t).2.2.2.2]
  have hy : (y 0).val < 8 := (y 0).isLt
  have ht : pt (((cfg0.win 4).blk t).view.emb y 0) = t := Fin.ext (by
    show (((cfg0.win 4).blk t).view.emb y 0).val / 8 = t.val
    rw [h0]
    omega)
  rw [ht]
  refine (cast_eq _ _).trans (congrArg (outsAt0 m c t) (funext fun a => Fin.ext ?_))
  fin_cases a
  · show (y 0).val = (((cfg0.win 4).blk t).view.emb y 0).val % 8
    rw [h0]
    omega
  · exact h1.symm

/-- The two rows of the point `t` the host reads. -/
theorem stacked_sum (t : Fin 2) (r : Fin 16) (h : r.val = 8 * t.val) :
    (stacked m c (ix2 r 0) : EReal) = ∑ l, tab ((Real.sqrt 10 : ℝ) : EReal) (ext (preds m c (pair t l))) (ext (targets m c (pair t l))) 512 512 := by
  have e : stacked m c (ix2 r 0) = outsAt0 m c t (ix2 0 0) := by
    show outsAt0 m c (pt r) (ix2 ⟨r.val % 8, _⟩ 0) = _
    rw [show pt r = t from Fin.ext (by show r.val / 8 = t.val; omega)]
    exact congrArg (fun k => outsAt0 m c t (ix2 k 0)) (Fin.ext (by show r.val % 8 = 0; omega))
  refine e.trans ((outBlock_sum _ _ _ _ 0).trans (Finset.sum_congr rfl fun l _ => ?_))
  rw [← root_eq]
  refine row_scr (fun l => ext (preds m c (pair t l))) (fun l => ext (targets m c (pair t l))) _ (fun l i h => ?_) _ (fun l i h => ?_) l
  · rw [ext_lt _ h, row_of _ _ (by omega)]
    exact blk0_at m c t _ ⟨i, h⟩ rfl l
  · rw [ext_lt _ h, row_of _ _ (by omega)]
    exact blk1_at m c t _ ⟨i, h⟩ rfl l

theorem stacked_corr (t : Fin 2) (r : Fin 16) (h : r.val = 8 * t.val + 1) :
    (stacked m c (ix2 r 0) : EReal) = ∑ l, pears (preds m c (pair t l)) (targets m c (pair t l)) := by
  have e : stacked m c (ix2 r 0) = outsAt0 m c t (ix2 1 0) := by
    show outsAt0 m c (pt r) (ix2 ⟨r.val % 8, _⟩ 0) = _
    rw [show pt r = t from Fin.ext (by show r.val / 8 = t.val; omega)]
    exact congrArg (fun k => outsAt0 m c t (ix2 k 0)) (Fin.ext (by show r.val % 8 = 1; omega))
  refine e.trans ((outBlock_corr _ _ _ _ 0).trans (Finset.sum_congr rfl fun l _ => ?_))
  exact congrArg₂ pears (funext fun i => blk2_at m c t i l) (funext fun i => blk3_at m c t i l)

/-- A sum over the two points' pairs is one over all of them. -/
theorem sum_pairs (f : Fin 256 → EReal) : (∑ l, f (pair 0 l)) + ∑ l, f (pair 1 l) = ∑ b, f b := by
  rw [show (∑ b, f b) = _ from Fin.sum_univ_add (a := 128) (b := 128) f]
  refine congrArg₂ (· + ·) (Finset.sum_congr rfl fun l _ => congrArg f (Fin.ext ?_)) (Finset.sum_congr rfl fun l _ => congrArg f (Fin.ext ?_))
  · show 128 * 0 + l.val = l.val
    omega
  · show 128 * 1 + l.val = 128 + l.val
    omega

/-- The kernel's result. -/
theorem result : (Pipeline.afterTail₀ cfgs (dats m) 0 (V0 m) [hostOps1] c main_v0 : FVec Ideal S_ .f32) ix0 = loss (preds m c) (targets m c) := by
  unfold Pipeline.afterTail₀
  refine (tail_at _ (stacked m c) ?_).trans ?_
  · exact (Pipeline.withArrays_arr spec0 launch0.win.arr_inj c (V0 m c) _ 4).trans (stacked_eq m c)
  · rw [stacked_sum m c 0 0 rfl, stacked_sum m c 1 8 rfl, stacked_corr m c 0 1 rfl, stacked_corr m c 1 9 rfl,
      sum_pairs fun b => tab ((Real.sqrt 10 : ℝ) : EReal) (ext (preds m c b)) (ext (targets m c b)) 512 512, sum_pairs fun b => pears (preds m c b) (targets m c b)]
    unfold loss
    rw [word_2560, word_256, rel_mean (rel_sum Finset.univ _ _ fun b _ => rel_tab (ext (preds m c b)) (ext (targets m c b)) _ 512 512 rfl)]

end Cert.KernelIdeal.Gen

end
-- ==== Proof.Reference.Ops.lean ====
module

public import Idealize.ShloMosaic.Lib.Pointwise
public import Idealize.ShloMosaic.Lib.Routing.OpsOrder
public import proofs.«01_k».proof.Proof.Gen.ReferenceIdeal.Run

/-! The reference's gather out of the distance matrices and its scatter of the table's corner, read at an index. -/

@[expose] public section

noncomputable section

namespace Cert.ReferenceIdeal.Value

open Idealize.ShloMosaic

/-- The gather reads, for each series, the distance in the row and column its two start words name. -/
theorem gather_at (x : S256x512x512.Idx → EReal) (idx : IVec S513x2 32) (b : Fin 256) (i : Fin 513) (r c : Fin 512)
    (hr : min (idx (ix2 i 0)).toInt.toNat 511 = r.val) (hc : min (idx (ix2 i 1)).toInt.toNat 511 = c.val) :
    Host.gather gather_S256x512x512_S513x2_S256x513_0_12_n_n_12_1_25611 x idx (ix2 b i) = x (ix3 b r c) := by
  unfold Host.gather
  congr 1
  funext a
  refine Fin.ext ?_
  show gather_S256x512x512_S513x2_S256x513_0_12_n_n_12_1_25611.start (ix2 b i) idx a
    + gather_S256x512x512_S513x2_S256x513_0_12_n_n_12_1_25611.batchCoord (ix2 b i) a
    + gather_S256x512x512_S513x2_S256x513_0_12_n_n_12_1_25611.offCoord (ix2 b i) a = _
  rw [GatherDims.batchCoord_eq_zero _ _ _ List.not_mem_nil, Nat.add_zero]
  match a with
  | ⟨0, _⟩ => exact Nat.zero_add b.val
  | ⟨1, _⟩ =>
    rw [GatherDims.offCoord_eq_zero _ _ _ (fun h => ((GatherDims.mem_sKept _ _).mp h).1 (show (1 : Fin 3) ∈ ([1, 2] : List (Fin 3)) by decide)), Nat.add_zero]
    refine Eq.trans ?_ hr
    unfold GatherDims.start
    refine (dif_pos (show (1 : Fin 3) ∈ ([1, 2] : List (Fin 3)) by decide)).trans ?_
    have e : ∀ q, gather_S256x512x512_S513x2_S256x513_0_12_n_n_12_1_25611.siIdx (ix2 b i) ⟨0, q⟩ = ix2 i 0 := fun q => by
      funext d
      match d with
      | ⟨0, _⟩ => rfl
      | ⟨1, _⟩ => rfl
    exact congrArg (fun j => min (idx j).toInt.toNat 511) (e (by decide))
  | ⟨2, _⟩ =>
    rw [GatherDims.offCoord_eq_zero _ _ _ (fun h => ((GatherDims.mem_sKept _ _).mp h).1 (show (2 : Fin 3) ∈ ([1, 2] : List (Fin 3)) by decide)), Nat.add_zero]
    refine Eq.trans ?_ hc
    unfold GatherDims.start
    refine (dif_pos (show (2 : Fin 3) ∈ ([1, 2] : List (Fin 3)) by decide)).trans ?_
    have e : ∀ q, gather_S256x512x512_S513x2_S256x513_0_12_n_n_12_1_25611.siIdx (ix2 b i) ⟨1, q⟩ = ix2 i 1 := fun q => by
      funext d
      match d with
      | ⟨0, _⟩ => rfl
      | ⟨1, _⟩ => rfl
    exact congrArg (fun j => min (idx j).toInt.toNat 511) (e (by decide))

/-- Overwriting with one value wherever a condition holds, over a list. -/
theorem foldl_const {α β : Type} (P : β → Prop) [DecidablePred P] (c : α) : ∀ (L : List β) (x : α),
    L.foldl (fun a n => if P n then c else a) x = if ∃ n ∈ L, P n then c else x := by
  intro L
  induction L with
  | nil => intro x; rw [if_neg (by rintro ⟨n, h, _⟩; exact absurd h List.not_mem_nil)]; rfl
  | cons n L ih =>
    intro x
    rw [List.foldl_cons, ih]
    by_cases h : P n
    · rw [if_pos h, ite_self, if_pos ⟨n, List.mem_cons_self, h⟩]
    · rw [if_neg h]
      refine if_congr ⟨fun ⟨m, hm, q⟩ => ⟨m, List.mem_cons_of_mem _ hm, q⟩, fun ⟨m, hm, q⟩ => ?_⟩ rfl rfl
      rcases List.mem_cons.mp hm with rfl | hm
      · exact absurd q h
      · exact ⟨m, hm, q⟩

/-- Where an update of the corner lands: its series' column 0. -/
theorem scatter_idx (j : S256.Idx) (idx : IVec S1 32) (h : idx = fun _ => 0#32) :
    scatter_S256x513_S1_S256_0_1_1_0.resultIdx? j idx = some (ix2 (j 0) 0) := by
  subst h
  have e0 : ∀ a, scatter_S256x513_S1_S256_0_1_1_0.start j (fun _ => 0#32) a = 0 := by
    intro a
    match a with
    | ⟨0, _⟩ => rfl
    | ⟨1, _⟩ => rfl
  have e1 : scatter_S256x513_S1_S256_0_1_1_0.window j 0 = (j 0).val := rfl
  have e2 : scatter_S256x513_S1_S256_0_1_1_0.window j 1 = 0 := rfl
  unfold ScatterDims.resultIdx?
  have hin : ∀ a, 0 ≤ scatter_S256x513_S1_S256_0_1_1_0.start j (fun _ => 0#32) a + scatter_S256x513_S1_S256_0_1_1_0.window j a
      ∧ scatter_S256x513_S1_S256_0_1_1_0.start j (fun _ => 0#32) a + scatter_S256x513_S1_S256_0_1_1_0.window j a < S256x513.size a := by
    intro a
    rw [e0]
    match a with
    | ⟨0, _⟩ =>
      have := (j 0).isLt
      show 0 ≤ 0 + ((j 0).val : Int) ∧ 0 + ((j 0).val : Int) < 256
      have h' : (j 0).val < 256 := this
      omega
    | ⟨1, _⟩ =>
      show (0 : Int) ≤ 0 + ((0 : ℕ) : Int) ∧ (0 : Int) + ((0 : ℕ) : Int) < 513
      omega
  rw [dif_pos hin]
  congr 1
  funext a
  refine Fin.ext ?_
  match a with
  | ⟨0, _⟩ =>
    show (scatter_S256x513_S1_S256_0_1_1_0.start j (fun _ => 0#32) 0 + scatter_S256x513_S1_S256_0_1_1_0.window j 0 : Int).toNat = (j 0).val
    rw [e0, e1]; omega
  | ⟨1, _⟩ =>
    show (scatter_S256x513_S1_S256_0_1_1_0.start j (fun _ => 0#32) 1 + scatter_S256x513_S1_S256_0_1_1_0.window j 1 : Int).toNat = 0
    rw [e0, e2]; omega

/-- The scatter of one value into column 0. -/
theorem scatter_at {x : S256x513.Idx → EReal} {idx : IVec S1 32} {u : S256.Idx → EReal} (c : EReal) (hi : idx = fun _ => 0#32)
    (hu : u = fun _ => c) (b : Fin 256) (i : Fin 513) :
    Host.scatter scatter_S256x513_S1_S256_0_1_1_0 (fun _ b => b) x idx u (ix2 b i) = if i.val = 0 then c else x (ix2 b i) := by
  rw [← Routing.scatterIn_finRange, Routing.scatterIn_at]
  subst hu
  dsimp only
  classical
  have hP : ∀ n : Fin S256.numel, (scatter_S256x513_S1_S256_0_1_1_0.resultIdx? (S256.rowMajor.symm n) idx = some (ix2 b i))
      ↔ (i.val = 0 ∧ (S256.rowMajor.symm n) 0 = b) := by
    intro n
    rw [scatter_idx _ _ hi]
    constructor
    · intro e
      have e := Option.some.inj e
      exact ⟨(congrArg Fin.val (congrFun e 1)).symm, congrFun e 0⟩
    · rintro ⟨h0, rfl⟩
      rw [show i = 0 from Fin.ext h0]
      rfl
  simp only [hP]
  rw [foldl_const]
  by_cases h : i.val = 0
  · rw [if_pos h, if_pos ⟨S256.rowMajor (ix1 b), List.mem_finRange _, h, by rw [Equiv.symm_apply_apply]; rfl⟩]
  · rw [if_neg h, if_neg (by rintro ⟨n, _, h', _⟩; exact h h')]

end Cert.ReferenceIdeal.Value

end
-- ==== Proof.Reference.Parts.lean ====
module

public import proofs.«01_k».proof.Proof.Reference.Ops
public import proofs.«01_k».proof.Proof.Cell

/-! The parts of one step of the reference's loop, read at an index. -/

@[expose] public section

set_option maxRecDepth 8192

noncomputable section

namespace Cert.ReferenceIdeal.Value

open Idealize.ShloMosaic
open Facts₀ Facts

/-- The device's buffer contents. -/
abbrev Conts : Type := Valuation τ sig (Elt Ideal)

variable (V : Conts)

/-- The two diagonals carried. -/
abbrev diags : FVec Ideal S2x256x513 .f32 := V (Proc.devRef .tc main_v19_5)

theorem v54_at (b : Fin 256) (i : Fin 513) : res_main_while0b_v54 V (ix2 b i) = diags V (ix3 1 b i) := by
  unfold res_main_while0b_v54
  pointwise

theorem bot_word : (Ideal.ofBits .f32 0xFF800000#32 : EReal) = ⊥ := by
  simp [Ideal.ofBits, Ideal.ieee]
theorem top_word : (Ideal.ofBits .f32 0x7F800000#32 : EReal) = ⊤ := by
  simp [Ideal.ofBits, Ideal.ieee]

/-- A diagonal shifted down by one row, `⊤` in its first row. -/
def down (x : ℕ → EReal) (i : ℕ) : EReal := if i = 0 then ⊤ else x (i - 1)

/-- Row `i` of carried diagonal `e` of series `b`, `⊤` past its last row. -/
def dg (e : Fin 2) (b : Fin 256) (i : ℕ) : EReal := if h : i < 513 then diags V (ix3 e b ⟨i, h⟩) else ⊤

theorem dg_of (e : Fin 2) (b : Fin 256) (i : Fin 513) : dg V e b i.val = diags V (ix3 e b i) := dif_pos i.isLt

/-- The shifted copy of an array of rows. -/
theorem pad_at (x : FVec Ideal S256x512 .f32) (b : Fin 256) (i : Fin 513) :
    pad S256x513 ![0, 1] ![0, 0] ![0, 0] x (id (constant (F := Ideal) S_ .f32 0x7F800000#32)) pads_S256x512_S256x513_000_100 h_S_ (ix2 b i)
      = if h : i.val = 0 then ⊤ else x (ix2 b ⟨i.val - 1, by omega⟩) := by
  rw [pad_apply]
  have hi := i.isLt
  by_cases h : i.val = 0
  · rw [dif_pos h]
    refine (dif_neg fun q => ?_).trans top_word
    have := (q 1).1
    have e : (1 : ℕ) ≤ i.val := this
    omega
  · rw [dif_neg h]
    refine (dif_pos fun a => ?_).trans ?_
    · match a with
      | ⟨0, _⟩ => exact ⟨Nat.zero_le _, Nat.mod_one _, lt_of_eq_of_lt (Nat.div_one b.val) b.isLt⟩
      | ⟨1, _⟩ => exact ⟨show 1 ≤ i.val by omega, Nat.mod_one _, lt_of_eq_of_lt (Nat.div_one (i.val - 1)) (show i.val - 1 < 512 by omega)⟩
    · congr 1
      funext a
      match a with
      | ⟨0, _⟩ => exact Fin.ext (Nat.div_one _)
      | ⟨1, _⟩ => exact Fin.ext (Nat.div_one _)

theorem cut_at (x : FVec Ideal S256x513 .f32) (b : Fin 256) (i : Fin 512) :
    extractStridedSlice S256x512 ![0, 0] x slices_S256x513_S256x512_0_0 (ix2 b i) = x (ix2 b ⟨i.val, by omega⟩) := by
  pointwise

theorem first_at (b : Fin 256) (i : Fin 513) :
    shapeCast S256x513 (extractStridedSlice S1x256x513 ![0, 0, 0] (diags V) slices_S2x256x513_S1x256x513_0_0_0) shapeCasts_S1x256x513_S256x513 (ix2 b i)
      = diags V (ix3 0 b i) := by
  pointwise

/-- The three neighbours, negated and divided by the temperature. -/
theorem v75_at (g : EReal) (hg : ∀ j, (V (Proc.devRef .tc main_v19_2) : FVec Ideal S_ .f32) j = g) (e : Fin 3) (b : Fin 256) (i : Fin 513) :
    res_main_while0b_v75 V (ix3 e b i)
      = Ideal.div (-(![down (dg V 1 b) i.val, dg V 1 b i.val, down (dg V 0 b) i.val] e)) g := by
  have hs : ∀ (x : FVec Ideal S256x513 .f32) (d : Fin 2), (∀ j, x (ix2 b j) = diags V (ix3 d b j)) →
      pad S256x513 ![0, 1] ![0, 0] ![0, 0] (extractStridedSlice S256x512 ![0, 0] x slices_S256x513_S256x512_0_0)
        (id (constant (F := Ideal) S_ .f32 0x7F800000#32)) pads_S256x512_S256x513_000_100 h_S_ (ix2 b i) = down (dg V d b) i.val := by
    intro x d hx
    rw [pad_at]
    unfold down
    by_cases h : i.val = 0
    · rw [dif_pos h, if_pos h]
    · rw [dif_neg h, if_neg h, cut_at, hx]
      exact (dg_of V d b ⟨i.val - 1, by omega⟩).symm
  have e1 := hs _ 1 (v54_at V b)
  have e0 := hs _ 0 (first_at V b)
  have e2 := (v54_at V b i).trans (dg_of V 1 b i).symm
  unfold res_main_while0b_v75
  match e with
  | ⟨0, _⟩ => rw [← e1]; pointwise [hg]
  | ⟨1, _⟩ => rw [← e2]; pointwise [hg]
  | ⟨2, _⟩ => rw [← e0]; pointwise [hg]

/-- The three neighbours and their largest, as arrays. -/
abbrev three : FVec Ideal S3x256x513 .f32 := res_main_while0b_v75 V
abbrev largest : FVec Ideal S256x513 .f32 := res_main_while0b_v76 V
abbrev shifts : FVec Ideal S256x513 .f32 := res_main_while0b_v82 V

theorem fold_three (x : FVec Ideal S3x256x513 .f32) (b : Fin 256) (i : Fin 513) :
    Host.reduce FloatOps.maximumf x (constant S_ .f32 0xFF800000#32) reducesTo_S3x256x513_S256x513_d0 h_S_ (ix2 b i)
      = max (max (x (ix3 0 b i)) (x (ix3 1 b i)) : EReal) (x (ix3 2 b i)) := by
  pointwise
  rw [show (Finset.univ : Finset (Fin 3)) = {0, 1, 2} from rfl, Finset.fold_insert (by decide), Finset.fold_insert (by decide),
    Finset.fold_singleton, bot_word, max_eq_left bot_le, max_assoc]

/-- The largest of the three. -/
theorem v76_at (b : Fin 256) (i : Fin 513) :
    largest V (ix2 b i) = max (max (three V (ix3 0 b i)) (three V (ix3 1 b i)) : EReal) (three V (ix3 2 b i)) :=
  fold_three (three V) b i

theorem select_finite (w z : EReal) :
    Scalar.select (IntOp.andi (BitVec.ofBool (decide (⊥ < w))) (BitVec.ofBool (decide (w < ⊤)))) w 0 = shift w := by
  unfold shift
  by_cases h1 : ⊥ < w
  · by_cases h2 : w < ⊤
    · rw [if_pos ⟨h1, h2⟩, decide_eq_true h1, decide_eq_true h2]; rfl
    · rw [if_neg fun h => h2 h.2, decide_eq_true h1, decide_eq_false h2]; rfl
  · rw [if_neg fun h => h1 h.1, decide_eq_false h1]
    cases decide (w < ⊤) <;> rfl

/-- The shift subtracted. -/
theorem v82_at (b : Fin 256) (i : Fin 513) : shifts V (ix2 b i) = shift (largest V (ix2 b i)) := by
  refine Eq.trans ?_ (select_finite _ 0)
  unfold shifts res_main_while0b_v82
  pointwise
  rw [bot_word, top_word]
  rw [show (id (constant (F := Ideal) S_ .f32 0x00000000#32) ix0 : EReal) = 0 from Ideal.ofBits_zero_f32]

theorem lse_at (b : Fin 256) (i : Fin 513) :
    (addf (F := Ideal) (Host.log (Host.reduceAdd (Host.exp (subf (res_main_while0b_v75 V) (broadcastInDim S3x256x513 ![0, 1, 2] bcast_S1x256x513_S3x256x513_0_1_2 (broadcastInDim S1x256x513 ![1, 2] bcast_S256x513_S1x256x513_1_2 (res_main_while0b_v82 V))))) (constant S_ .f32 0x00000000#32) reducesTo_S3x256x513_S256x513_d0 h_S_)) (res_main_while0b_v82 V)) (ix2 b i)
      = (Ideal.log (Ideal.exp (three V (ix3 0 b i) - shifts V (ix2 b i)) + Ideal.exp (three V (ix3 1 b i) - shifts V (ix2 b i)) + Ideal.exp (three V (ix3 2 b i) - shifts V (ix2 b i))) + shifts V (ix2 b i) : EReal) := by
  pointwise
  rw [Fin.sum_univ_three]

/-- A small number's word, read signed. -/
theorem toInt_small {n : ℕ} (h : n < 2147483648) : (BitVec.ofNat 32 n).toInt = (n : Int) := by
  rw [BitVec.toInt_eq_toNat_of_lt (by rw [BitVec.toNat_ofNat]; omega), BitVec.toNat_ofNat, Nat.mod_eq_of_lt (by omega)]

/-- The diagonal's row subtracted from its number: the column. -/
theorem v56_at (i : Fin 513) {k : ℕ} (hk : k < 1023)
    (h0 : ∀ n : Fin 1023, (V (Proc.devRef .tc main_v19_0) : IVec S1023 32) (ix1 n) = BitVec.ofNat 32 (n.val + 2))
    (h1 : ∀ n : Fin 513, (V (Proc.devRef .tc main_v19_1) : IVec S513 32) (ix1 n) = BitVec.ofNat 32 n.val)
    (h4 : (V (Proc.devRef .tc main_v19_4) : IVec S_ 32) = fun _ => BitVec.ofNat 32 k) :
    (res_main_while0b_v56 V : IVec S513 32) (ix1 i) = BitVec.ofNat 32 (k + 2) - BitVec.ofNat 32 i.val := by
  have e : ∀ (x : IVec S1023 32) (y : IVec S513 32) (z : IVec S_ 32), (∀ n : Fin 1023, x (ix1 n) = BitVec.ofNat 32 (n.val + 2)) →
      z = (fun _ => BitVec.ofNat 32 k) →
      subi (broadcastInDim S513 ![] bcast_S_S513 (shapeCast S_ (Host.dynamicSlice S1 x (fun k => (((![z] : Fin 1 → (⟨S_, .i32⟩ : BufTy).Contents (Elt Ideal))) k (Shape.Idx.first h_S_)).toInt) sliceFits_S1023_S1) shapeCasts_S1_S_)) y (ix1 i)
        = BitVec.ofNat 32 (k + 2) - y (ix1 i) := by
    intro x y z hx hz
    subst hz
    pointwise
    have ec : Host.clampedStart S1023 S1 sliceFits_S1023_S1.1 (fun _ => (BitVec.ofNat 32 k).toInt) 0 = k := by
      refine Host.clampedStart_of_le _ _ _ k ?_ (show k + 1 ≤ 1023 by omega)
      exact toInt_small (by omega)
    refine congrArg (fun w => w - y (ix1 i)) ?_
    refine Eq.trans ?_ (hx ⟨k, hk⟩)
    exact congrArg (fun n => x (ix1 n)) (Fin.ext ec)
  exact (e _ _ _ h0 h4).trans (by rw [h1])

end Cert.ReferenceIdeal.Value

end
-- ==== Proof.Reference.Words.lean ====
module

public import proofs.«01_k».proof.Proof.Reference.Parts

/-! The index words of one step of the reference's loop: which rows lie inside the table, and which distance each reads. -/

@[expose] public section

set_option maxRecDepth 8192

noncomputable section

namespace Cert.ReferenceIdeal.Value

open Idealize.ShloMosaic
open Facts₀ Facts

/-- The column of row `i` on diagonal `d`, read signed. -/
theorem col_toInt {d i : ℕ} (hd : d ≤ 1024) (hi : i < 513) : (BitVec.ofNat 32 d - BitVec.ofNat 32 i).toInt = (d : Int) - i := by
  rw [BitVec.toInt_sub, toInt_small (by omega), toInt_small (by omega)]
  exact Int.bmod_eq_of_le (by omega) (by omega)

theorem col_word {d i : ℕ} (hi : i < 513) (h : i ≤ d) : BitVec.ofNat 32 d - BitVec.ofNat 32 i = BitVec.ofNat 32 (d - i) := by
  rw [BitVec.ofNat_sub_ofNat_of_le d i (by omega) h]

theorem inside_word {d i : ℕ} (hd : d ≤ 1024) (hi : i < 513) :
    IntOp.andi (IntOp.andi (IntOp.cmpi .sge (BitVec.ofNat 32 i) 1#32) (IntOp.cmpi .sge (BitVec.ofNat 32 d - BitVec.ofNat 32 i) 1#32))
        (IntOp.cmpi .sle (BitVec.ofNat 32 d - BitVec.ofNat 32 i) 512#32)
      = BitVec.ofBool (decide (1 ≤ i ∧ i + 1 ≤ d ∧ d ≤ i + 512)) := by
  have e1 : (1#32 : BitVec 32).toInt = 1 := rfl
  have e512 : (512#32 : BitVec 32).toInt = 512 := rfl
  have h1 : IntOp.cmpi .sge (BitVec.ofNat 32 i) 1#32 = BitVec.ofBool (decide (1 ≤ i)) := by
    unfold IntOp.cmpi; dsimp only
    rw [BitVec.sle_eq_decide, e1, toInt_small (by omega)]
    exact congrArg BitVec.ofBool (decide_eq_decide.mpr (by omega))
  have h2 : IntOp.cmpi .sge (BitVec.ofNat 32 d - BitVec.ofNat 32 i) 1#32 = BitVec.ofBool (decide (i + 1 ≤ d)) := by
    unfold IntOp.cmpi; dsimp only
    rw [BitVec.sle_eq_decide, e1, col_toInt hd hi]
    exact congrArg BitVec.ofBool (decide_eq_decide.mpr (by omega))
  have h3 : IntOp.cmpi .sle (BitVec.ofNat 32 d - BitVec.ofNat 32 i) 512#32 = BitVec.ofBool (decide (d ≤ i + 512)) := by
    unfold IntOp.cmpi; dsimp only
    rw [BitVec.sle_eq_decide, e512, col_toInt hd hi]
    exact congrArg BitVec.ofBool (decide_eq_decide.mpr (by omega))
  rw [h1, h2, h3]
  by_cases a : 1 ≤ i <;> by_cases b : i + 1 ≤ d <;> by_cases c : d ≤ i + 512 <;> simp [a, b, c] <;> rfl

/-- A clamped index, and its wrapped form, for an index in range. -/
theorem clamp_word : ∀ n : Fin 512, IntOp.minsi 511#32 (IntOp.maxsi 0#32 (IntOp.subi (BitVec.ofNat 32 (n.val + 1)) 1#32)) = BitVec.ofNat 32 n.val := by
  decide +kernel
theorem wrap_word : ∀ n : Fin 512, Scalar.select (IntOp.cmpi .slt (BitVec.ofNat 32 n.val) 0#32) (IntOp.addi (BitVec.ofNat 32 n.val) 512#32) (BitVec.ofNat 32 n.val)
    = BitVec.ofNat 32 n.val := by
  decide +kernel
theorem read_word : ∀ n : Fin 512, min (BitVec.ofNat 32 n.val).toInt.toNat 511 = n.val := by
  decide +kernel

end Cert.ReferenceIdeal.Value

end
-- ==== Proof.Reference.Step.lean ====
module

public import proofs.«01_k».proof.Proof.Reference.Words

/-! One step of the reference's loop, read at an index. -/

@[expose] public section

set_option maxRecDepth 8192

noncomputable section

namespace Cert.ReferenceIdeal.Value

open Idealize.ShloMosaic
open Facts₀ Facts

/-- Two diagonals stacked. -/
theorem stack_at (x y : FVec Ideal S256x513 .f32) (e : Fin 2) (b : Fin 256) (i : Fin 513) :
    concatenate S2x256x513 0 [⟨S1x256x513, (broadcastInDim S1x256x513 ![1, 2] bcast_S256x513_S1x256x513_1_2 x)⟩,
      ⟨S1x256x513, (broadcastInDim S1x256x513 ![1, 2] bcast_S256x513_S1x256x513_1_2 y)⟩] concatenates_S1x256x513_S1x256x513_S2x256x513_d0 (ix3 e b i)
      = (![x (ix2 b i), y (ix2 b i)] : Fin 2 → EReal) e := by
  match e with
  | ⟨0, _⟩ => pointwise
  | ⟨1, _⟩ => pointwise

/-- A new diagonal: the cell inside the table, `⊤` outside. -/
theorem choose_at (C : IVec S513 1) (G L : FVec Ideal S256x513 .f32) (N : FVec Ideal S_ .f32) (b : Fin 256) (i : Fin 513) (g : EReal) (hN : ∀ j, N j = g) :
    select (broadcastInDim S256x513 ![1] bcast_S513_S256x513_1 C) (addf G (mulf (broadcastInDim S256x513 ![] bcast_S_S256x513 (Host.negf N)) L))
      (broadcastInDim S256x513 ![] bcast_S_S256x513 (id (constant S_ .f32 0x7F800000#32))) (ix2 b i)
      = Scalar.select (C (ix1 i)) (G (ix2 b i) + -g * L (ix2 b i) : EReal) ⊤ := by
  rw [← top_word]
  pointwise [hN]
  rfl

theorem cond_at (I C : IVec S513 32) (i : Fin 513) :
    andi (andi (cmpi .sge I (broadcastInDim S513 ![] bcast_S_S513 (constantI S_ 32 1#32))) (cmpi .sge C (broadcastInDim S513 ![] bcast_S_S513 (constantI S_ 32 1#32))))
      (cmpi .sle C (broadcastInDim S513 ![] bcast_S_S513 (constantI S_ 32 512#32))) (ix1 i)
      = IntOp.andi (IntOp.andi (IntOp.cmpi .sge (I (ix1 i)) 1#32) (IntOp.cmpi .sge (C (ix1 i)) 1#32)) (IntOp.cmpi .sle (C (ix1 i)) 512#32) := by
  pointwise

/-- The start words of the gather. -/
theorem starts_at (A B : IVec S513 32) (e : Fin 2) (i : Fin 513) :
    concatenate S513x2 1 [⟨S513x1, (broadcastInDim S513x1 ![0] bcast_S513_S513x1_0 (select (cmpi .slt A (broadcastInDim S513 ![] bcast_S_S513 (constantI S_ 32 0#32))) (addi A (broadcastInDim S513 ![] bcast_S_S513 (constantI S_ 32 512#32))) A))⟩,
      ⟨S513x1, (broadcastInDim S513x1 ![0] bcast_S513_S513x1_0 (select (cmpi .slt B (broadcastInDim S513 ![] bcast_S_S513 (constantI S_ 32 0#32))) (addi B (broadcastInDim S513 ![] bcast_S_S513 (constantI S_ 32 512#32))) B))⟩] concatenates_S513x1_S513x1_S513x2_d1 (ix2 i e)
      = (![Scalar.select (IntOp.cmpi .slt (A (ix1 i)) 0#32) (IntOp.addi (A (ix1 i)) 512#32) (A (ix1 i)),
          Scalar.select (IntOp.cmpi .slt (B (ix1 i)) 0#32) (IntOp.addi (B (ix1 i)) 512#32) (B (ix1 i))] : Fin 2 → BitVec 32) e := by
  match e with
  | ⟨0, _⟩ => pointwise
  | ⟨1, _⟩ => pointwise

theorem clamp_at (I : IVec S513 32) (i : Fin 513) :
    minsi (broadcastInDim S513 ![] bcast_S_S513 (id (constantI S_ 32 511#32))) (maxsi (broadcastInDim S513 ![] bcast_S_S513 (id (constantI S_ 32 0#32))) (subi I (broadcastInDim S513 ![] bcast_S_S513 (constantI S_ 32 1#32)))) (ix1 i)
      = IntOp.minsi 511#32 (IntOp.maxsi 0#32 (IntOp.subi (I (ix1 i)) 1#32)) := by
  pointwise
  rfl

/-- Diagonal `d` of the reference's table at row `i`, `⊤` outside the table. -/
def sdiag (g : EReal) (p t : ℕ → EReal) (d i : ℕ) : EReal := if i ≤ d ∧ d ≤ i + 512 then soft g p t i (d - i) else ⊤

theorem sdiag_in (g : EReal) (p t : ℕ → EReal) (i j : ℕ) (hj : j ≤ 512) : sdiag g p t (i + j) i = soft g p t i j := by
  unfold sdiag
  rw [if_pos ⟨by omega, by omega⟩, Nat.add_sub_cancel_left]

/-- A diagonal from the two before it. -/
theorem sdiag_next (g : EReal) (p t : ℕ → EReal) (k i : ℕ) :
    sdiag g p t (k + 2) i = if 1 ≤ i ∧ i + 1 ≤ k + 2 ∧ k + 2 ≤ i + 512 then
        (p (i - 1) - t (k + 2 - i - 1)) * (p (i - 1) - t (k + 2 - i - 1))
          + softMin g (down (sdiag g p t (k + 1)) i) (sdiag g p t (k + 1) i) (down (sdiag g p t k) i)
      else ⊤ := by
  by_cases h : 1 ≤ i ∧ i + 1 ≤ k + 2 ∧ k + 2 ≤ i + 512
  · obtain ⟨i, rfl⟩ : ∃ i', i = i' + 1 := ⟨i - 1, by omega⟩
    obtain ⟨j, rfl⟩ : ∃ j, k = i + j := ⟨k - i, by omega⟩
    rw [if_pos h, show i + j + 2 = i + 1 + (j + 1) by omega, sdiag_in _ _ _ _ _ (by omega), soft_cell]
    unfold down
    rw [if_neg (by omega), if_neg (by omega), Nat.add_sub_cancel, sdiag_in _ _ _ _ _ (by omega),
      show i + j + 1 = i + (j + 1) by omega, sdiag_in _ _ _ _ _ (by omega), show i + (j + 1) = i + 1 + j by omega,
      sdiag_in _ _ _ _ _ (by omega), show i + 1 + (j + 1) - (i + 1) - 1 = j by omega]
  · rw [if_neg h]
    unfold sdiag
    split_ifs with h'
    · rcases Nat.eq_zero_or_pos i with rfl | hi
      · exact soft_top _ _ _ (by omega)
      · rw [show k + 2 - i = 0 by omega]; exact soft_left _ _ _ hi
    · rfl

/-- What the loop carries before trip `k`: diagonals `k` and `k + 1` of every pair of series. -/
structure Carried (p t : Fin 256 → ℕ → EReal) (k : ℕ) (V : Conts) : Prop where
  steps : ∀ n : Fin 1023, (V (Proc.devRef .tc main_v19_0) : IVec S1023 32) (ix1 n) = BitVec.ofNat 32 (n.val + 2)
  rows : ∀ n : Fin 513, (V (Proc.devRef .tc main_v19_1) : IVec S513 32) (ix1 n) = BitVec.ofNat 32 n.val
  temp : ∀ j, (V (Proc.devRef .tc main_v19_2) : FVec Ideal S_ .f32) j = tenth
  dist : ∀ (b : Fin 256) (r c : Fin 512), (V (Proc.devRef .tc main_v19_3) : FVec Ideal S256x512x512 .f32) (ix3 b r c)
    = ((p b r.val - t b c.val) * (p b r.val - t b c.val) : EReal)
  ctr : (V (Proc.devRef .tc main_v19_4) : IVec S_ 32) = fun _ => BitVec.ofNat 32 k
  prev : ∀ (b : Fin 256) (i : Fin 513), diags V (ix3 0 b i) = sdiag tenth (p b) (t b) k i.val
  last : ∀ (b : Fin 256) (i : Fin 513), diags V (ix3 1 b i) = sdiag tenth (p b) (t b) (k + 1) i.val

variable {p t : Fin 256 → ℕ → EReal} {k : ℕ} {V : Conts}

theorem Carried.dg_prev (h : Carried p t k V) (b : Fin 256) {i : ℕ} (hi : i < 513) : dg V 0 b i = sdiag tenth (p b) (t b) k i :=
  (dg_of V 0 b ⟨i, hi⟩).trans (h.prev b ⟨i, hi⟩)
theorem Carried.dg_last (h : Carried p t k V) (b : Fin 256) {i : ℕ} (hi : i < 513) : dg V 1 b i = sdiag tenth (p b) (t b) (k + 1) i :=
  (dg_of V 1 b ⟨i, hi⟩).trans (h.last b ⟨i, hi⟩)

theorem down_congr {x y : ℕ → EReal} {i : ℕ} (hi : i < 513) (h : ∀ j, j < 513 → x j = y j) : down x i = down y i := by
  unfold down
  split_ifs
  · rfl
  · exact h _ (by omega)

/-- The distance the gather reads, for a row inside the table. -/
theorem Carried.read (h : Carried p t k V) (hk : k < 1023) (b : Fin 256) (i : Fin 513) (hin : 1 ≤ i.val ∧ i.val + 1 ≤ k + 2 ∧ k + 2 ≤ i.val + 512) :
    Host.gather gather_S256x512x512_S513x2_S256x513_0_12_n_n_12_1_25611 (V (Proc.devRef .tc main_v19_3)) (concatenate S513x2 1 [⟨S513x1, (broadcastInDim S513x1 ![0] bcast_S513_S513x1_0 (select (cmpi .slt (res_main_while0b_v95 V) (broadcastInDim S513 ![] bcast_S_S513 (constantI S_ 32 0#32))) (addi (res_main_while0b_v95 V) (broadcastInDim S513 ![] bcast_S_S513 (constantI S_ 32 512#32))) (res_main_while0b_v95 V)))⟩,
      ⟨S513x1, (broadcastInDim S513x1 ![0] bcast_S513_S513x1_0 (select (cmpi .slt (res_main_while0b_v98 V) (broadcastInDim S513 ![] bcast_S_S513 (constantI S_ 32 0#32))) (addi (res_main_while0b_v98 V) (broadcastInDim S513 ![] bcast_S_S513 (constantI S_ 32 512#32))) (res_main_while0b_v98 V)))⟩] concatenates_S513x1_S513x1_S513x2_d1) (ix2 b i)
      = ((p b (i.val - 1) - t b (k + 2 - i.val - 1)) * (p b (i.val - 1) - t b (k + 2 - i.val - 1)) : EReal) := by
  have hi := i.isLt
  have e95 : (res_main_while0b_v95 V : IVec S513 32) (ix1 i) = BitVec.ofNat 32 (i.val - 1) := by
    unfold res_main_while0b_v95
    refine (clamp_at _ i).trans ?_
    rw [h.rows i]
    have e := clamp_word ⟨i.val - 1, by omega⟩
    rwa [show i.val - 1 + 1 = i.val by omega] at e
  have e98 : (res_main_while0b_v98 V : IVec S513 32) (ix1 i) = BitVec.ofNat 32 (k + 2 - i.val - 1) := by
    unfold res_main_while0b_v98
    refine (clamp_at _ i).trans ?_
    rw [v56_at V i hk h.steps h.rows h.ctr, col_word i.isLt (by omega)]
    have e := clamp_word ⟨k + 2 - i.val - 1, by omega⟩
    rwa [show k + 2 - i.val - 1 + 1 = k + 2 - i.val by omega] at e
  refine (gather_at _ _ b i ⟨i.val - 1, by omega⟩ ⟨k + 2 - i.val - 1, by omega⟩ ?_ ?_).trans (h.dist b _ _)
  · rw [starts_at]
    refine Eq.trans ?_ (read_word ⟨i.val - 1, by omega⟩)
    refine congrArg (fun w : BitVec 32 => min w.toInt.toNat 511) ?_
    show Scalar.select _ _ _ = _
    rw [e95]
    exact wrap_word ⟨i.val - 1, by omega⟩
  · rw [starts_at]
    refine Eq.trans ?_ (read_word ⟨k + 2 - i.val - 1, by omega⟩)
    refine congrArg (fun w : BitVec 32 => min w.toInt.toNat 511) ?_
    show Scalar.select _ _ _ = _
    rw [e98]
    exact wrap_word ⟨k + 2 - i.val - 1, by omega⟩

/-- The soft minimum of the three neighbours. -/
theorem Carried.neighbours (h : Carried p t k V) (b : Fin 256) (i : Fin 513) :
    (-tenth * (Ideal.log (Ideal.exp (three V (ix3 0 b i) - shifts V (ix2 b i)) + Ideal.exp (three V (ix3 1 b i) - shifts V (ix2 b i)) + Ideal.exp (three V (ix3 2 b i) - shifts V (ix2 b i))) + shifts V (ix2 b i)) : EReal)
      = softMin tenth (down (sdiag tenth (p b) (t b) (k + 1)) i.val) (sdiag tenth (p b) (t b) (k + 1) i.val) (down (sdiag tenth (p b) (t b) k) i.val) := by
  have e0 : three V (ix3 0 b i) = Ideal.div (-(down (sdiag tenth (p b) (t b) (k + 1)) i.val)) tenth := by
    refine (v75_at V tenth h.temp 0 b i).trans (congrArg (fun x => Ideal.div (-x) tenth) ?_)
    exact down_congr i.isLt fun j hj => h.dg_last b hj
  have e1 : three V (ix3 1 b i) = Ideal.div (-(sdiag tenth (p b) (t b) (k + 1) i.val)) tenth := by
    refine (v75_at V tenth h.temp 1 b i).trans (congrArg (fun x => Ideal.div (-x) tenth) ?_)
    exact h.dg_last b i.isLt
  have e2 : three V (ix3 2 b i) = Ideal.div (-(down (sdiag tenth (p b) (t b) k) i.val)) tenth := by
    refine (v75_at V tenth h.temp 2 b i).trans (congrArg (fun x => Ideal.div (-x) tenth) ?_)
    exact down_congr i.isLt fun j hj => h.dg_prev b hj
  rw [v82_at, v76_at, e0, e1, e2]
  rfl

/-- One trip's new diagonals. -/
theorem Carried.new (h : Carried p t k V) (hk : k < 1023) (e : Fin 2) (b : Fin 256) (i : Fin 513) :
    (step_main_v19_5 V : FVec Ideal S2x256x513 .f32) (ix3 e b i) = (![sdiag tenth (p b) (t b) (k + 1) i.val, sdiag tenth (p b) (t b) (k + 2) i.val] : Fin 2 → EReal) e := by
  unfold step_main_v19_5
  refine (stack_at _ _ e b i).trans ?_
  match e with
  | ⟨0, _⟩ => exact (v54_at V b i).trans (h.last b i)
  | ⟨1, _⟩ =>
    refine (choose_at _ _ _ _ b i tenth h.temp).trans ?_
    rw [cond_at, h.rows i, v56_at V i hk h.steps h.rows h.ctr, inside_word (by omega) i.isLt, lse_at, h.neighbours]
    show _ = sdiag tenth (p b) (t b) (k + 2) i.val
    rw [sdiag_next]
    by_cases hin : 1 ≤ i.val ∧ i.val + 1 ≤ k + 2 ∧ k + 2 ≤ i.val + 512
    · rw [if_pos hin, decide_eq_true hin, h.read hk b i hin]
      rfl
    · rw [if_neg hin, decide_eq_false hin]
      rfl

/-- One trip. -/
theorem Carried.step (h : Carried p t k V) (hk : k < 1023) : Carried p t (k + 1) (STEP V) where
  steps n := by rw [STEP_main_v19_0]; exact h.steps n
  rows n := by rw [STEP_main_v19_1]; exact h.rows n
  temp j := by rw [STEP_main_v19_2]; exact h.temp j
  dist b r c := by rw [STEP_main_v19_3]; exact h.dist b r c
  ctr := by
    rw [STEP_main_v19_4]
    unfold step_main_v19_4
    refine Eq.trans (b := fun _ => IntOp.addi (BitVec.ofNat 32 k) 1#32) ?_ ?_
    · funext j
      exact congrArg (fun w => IntOp.addi w 1#32) (congrFun h.ctr j)
    · funext j
      exact (BitVec.ofNat_add k 1).symm
  prev b i := by
    show (STEP V (Proc.devRef .tc main_v19_5) : FVec Ideal S2x256x513 .f32) (ix3 0 b i) = _
    rw [STEP_main_v19_5]
    exact h.new hk 0 b i
  last b i := by
    show (STEP V (Proc.devRef .tc main_v19_5) : FVec Ideal S2x256x513 .f32) (ix3 1 b i) = _
    rw [STEP_main_v19_5]
    exact h.new hk 1 b i

theorem Carried.iterate (h : Carried p t 0 V) : ∀ n, n ≤ 1023 → Carried p t n (STEP^[n] V) := by
  intro n
  induction n with
  | zero => intro _; exact h
  | succ n ih =>
    intro hn
    rw [Function.iterate_succ_apply']
    exact (ih (by omega)).step (by omega)

/-- After the loop the last diagonal's last row is the table's last cell. -/
theorem Carried.result (h : Carried p t 0 V) (b : Fin 256) : diags (STEP^[1023] V) (ix3 1 b 512) = soft tenth (p b) (t b) 512 512 := by
  refine ((h.iterate 1023 (le_refl _)).last b 512).trans ?_
  exact sdiag_in tenth (p b) (t b) 512 512 (le_refl _)

end Cert.ReferenceIdeal.Value

end
-- ==== Proof.Reference.Value.lean ====
module

public import proofs.«01_k».proof.Proof.Reference.Step
public import proofs.«01_k».proof.Proof.Loss

/-! The reference's result is the loss of its arguments. -/

@[expose] public section

set_option maxRecDepth 8192

noncomputable section

namespace Cert.ReferenceIdeal.Value

open Idealize.ShloMosaic Idealize.ShloMosaic.TcCoe Idealize.ShloMosaic.Tactic Idealize.ShloMosaic.StableHlo
open Facts₀ Facts

variable (m : (ℓ : Loc nD τ sig) → Buf (Elt Ideal) ℓ) (c : Dev nD)

/-- The two arguments, one series per row. -/
def preds (b : Fin 256) (i : Fin 512) : EReal := (m ((c.tc : Thread nD τ).loc main_arg0) : FVec Ideal S256x512 .f32) (ix2 b i)
def targets (b : Fin 256) (i : Fin 512) : EReal := (m ((c.tc : Thread nD τ).loc main_arg1) : FVec Ideal S256x512 .f32) (ix2 b i)

theorem entry_steps : @Eq (IVec S1023 32) (entryContents preI m c (Proc.devRef .tc main_v19_0))
    (addi (broadcastInDim S1023 ![] bcast_S_S1023 (constantI S_ 32 2#32)) (iotaInDim S1023 32 0)) := by
  simp only [entryContents, afterL_cons, afterL_nil]
  after_reads_simp
  first | done | rfl
theorem entry_rows : @Eq (IVec S513 32) (entryContents preI m c (Proc.devRef .tc main_v19_1)) (iotaInDim S513 32 0) := by
  simp only [entryContents, afterL_cons, afterL_nil]
  after_reads_simp
  first | done | rfl
theorem entry_temp : @Eq (FVec Ideal S_ .f32) (entryContents preI m c (Proc.devRef .tc main_v19_2))
    (Host.divf (constant (F := Ideal) S_ .f32 0x3F800000#32) (constant (F := Ideal) S_ .f32 0x41200000#32)) := by
  simp only [entryContents, afterL_cons, afterL_nil]
  after_reads_simp
  first | done | rfl

theorem entry_dist : @Eq (FVec Ideal S256x512x512 .f32) (entryContents preI m c (Proc.devRef .tc main_v19_3))
    (mulf
      (subf (broadcastInDim S256x512x512 ![0, 1, 2] bcast_S256x512x1_S256x512x512_0_1_2 (broadcastInDim S256x512x1 ![0, 1] bcast_S256x512_S256x512x1_0_1 (m ((c.tc : Thread nD τ).loc main_arg0) : FVec Ideal S256x512 .f32)))
        (broadcastInDim S256x512x512 ![0, 1, 2] bcast_S256x1x512_S256x512x512_0_1_2 (broadcastInDim S256x1x512 ![0, 2] bcast_S256x512_S256x1x512_0_2 (m ((c.tc : Thread nD τ).loc main_arg1) : FVec Ideal S256x512 .f32))))
      (subf (broadcastInDim S256x512x512 ![0, 1, 2] bcast_S256x512x1_S256x512x512_0_1_2 (broadcastInDim S256x512x1 ![0, 1] bcast_S256x512_S256x512x1_0_1 (m ((c.tc : Thread nD τ).loc main_arg0) : FVec Ideal S256x512 .f32)))
        (broadcastInDim S256x512x512 ![0, 1, 2] bcast_S256x1x512_S256x512x512_0_1_2 (broadcastInDim S256x1x512 ![0, 2] bcast_S256x512_S256x1x512_0_2 (m ((c.tc : Thread nD τ).loc main_arg1) : FVec Ideal S256x512 .f32))))) := by
  simp only [entryContents, afterL_cons, afterL_nil]
  after_reads_simp
  first | done | rfl

/-- The array of the table's corner, `⊤` elsewhere. -/
def corner₀ : FVec Ideal S256x513 .f32 :=
  Host.scatter scatter_S256x513_S1_S256_0_1_1_0 (fun _ b => b) (broadcastInDim S256x513 ![] bcast_S_S256x513 (constant (F := Ideal) S_ .f32 0x7F800000#32))
            (broadcastInDim S1 ![] bcast_S_S1 (constantI S_ 32 0#32)) (broadcastInDim S256 ![] bcast_S_S256 (constant (F := Ideal) S_ .f32 0x00000000#32))

theorem entry_diags : @Eq (FVec Ideal S2x256x513 .f32) (diags (entryContents preI m c))
    (id <| concatenate S2x256x513 0 [⟨S1x256x513, (broadcastInDim S1x256x513 ![1, 2] bcast_S256x513_S1x256x513_1_2
          corner₀)⟩,
        ⟨S1x256x513, (broadcastInDim S1x256x513 ![1, 2] bcast_S256x513_S1x256x513_1_2 (broadcastInDim S256x513 ![] bcast_S_S256x513 (constant (F := Ideal) S_ .f32 0x7F800000#32)))⟩] concatenates_S1x256x513_S1x256x513_S2x256x513_d0) := by
  simp only [diags, entryContents, afterL_cons, afterL_nil]
  after_reads_simp
  first | done | rfl

theorem fill_at (b : Fin 256) (i : Fin 513) :
    broadcastInDim S256x513 ![] bcast_S_S256x513 (constant (F := Ideal) S_ .f32 0x7F800000#32) (ix2 b i) = (⊤ : EReal) := by
  rw [← top_word]
  pointwise

/-- The diagonals' numbers. -/
theorem steps_at (n : Fin 1023) : (id (addi (broadcastInDim S1023 ![] bcast_S_S1023 (constantI S_ 32 2#32)) (iotaInDim S1023 32 0)) : IVec S1023 32) (ix1 n)
    = BitVec.ofNat 32 (n.val + 2) := by
  show IntOp.addi 2#32 (BitVec.ofNat 32 n.val) = _
  rw [Nat.add_comm]
  exact (BitVec.ofNat_add 2 n.val).symm

/-- The squared distances of the points of two series. -/
theorem dist_at (x y : FVec Ideal S256x512 .f32) (b : Fin 256) (r q : Fin 512) :
    (mulf
      (subf (broadcastInDim S256x512x512 ![0, 1, 2] bcast_S256x512x1_S256x512x512_0_1_2 (broadcastInDim S256x512x1 ![0, 1] bcast_S256x512_S256x512x1_0_1 x))
        (broadcastInDim S256x512x512 ![0, 1, 2] bcast_S256x1x512_S256x512x512_0_1_2 (broadcastInDim S256x1x512 ![0, 2] bcast_S256x512_S256x1x512_0_2 y)))
      (subf (broadcastInDim S256x512x512 ![0, 1, 2] bcast_S256x512x1_S256x512x512_0_1_2 (broadcastInDim S256x512x1 ![0, 1] bcast_S256x512_S256x512x1_0_1 x))
        (broadcastInDim S256x512x512 ![0, 1, 2] bcast_S256x1x512_S256x512x512_0_1_2 (broadcastInDim S256x1x512 ![0, 2] bcast_S256x512_S256x1x512_0_2 y)))) (ix3 b r q)
      = ((x (ix2 b r) - y (ix2 b q)) * (x (ix2 b r) - y (ix2 b q)) : EReal) := by
  pointwise

/-- The first diagonal: the table's corner. -/
theorem start_prev (p t : ℕ → EReal) (b : Fin 256) (i : Fin 513) :
    corner₀ (ix2 b i)
      = sdiag tenth p t 0 i.val := by
  unfold corner₀
  refine (scatter_at (0 : EReal) rfl (funext fun _ => Ideal.ofBits_zero_f32) b i).trans ?_
  rw [fill_at]
  unfold sdiag
  by_cases h : i.val = 0
  · rw [if_pos h, if_pos ⟨by omega, by omega⟩, h, soft_zero]
  · rw [if_neg h, if_neg (by omega)]

/-- The second diagonal: nothing inside the table. -/
theorem start_last (p t : ℕ → EReal) (i : ℕ) : (⊤ : EReal) = sdiag tenth p t (0 + 1) i := by
  unfold sdiag
  split_ifs with h
  · rcases Nat.eq_zero_or_pos i with e | e
    · rw [e]; exact (soft_top _ _ _ (by omega)).symm
    · rw [show 0 + 1 - i = 0 by omega]; exact (soft_left _ _ _ e).symm
  · rfl

theorem entered_steps (n : Fin 1023) : (entryContents preI m c (Proc.devRef .tc main_v19_0) : IVec S1023 32) (ix1 n) = BitVec.ofNat 32 (n.val + 2) := by
  rw [entry_steps]
  exact steps_at n
theorem entered_rows (n : Fin 513) : (entryContents preI m c (Proc.devRef .tc main_v19_1) : IVec S513 32) (ix1 n) = BitVec.ofNat 32 n.val := by
  rw [entry_rows]
  rfl
theorem entered_temp (j : _) : (entryContents preI m c (Proc.devRef .tc main_v19_2) : FVec Ideal S_ .f32) j = tenth := by
  rw [entry_temp]
  exact one_tenth
theorem entered_dist (b : Fin 256) (r q : Fin 512) : (entryContents preI m c (Proc.devRef .tc main_v19_3) : FVec Ideal S256x512x512 .f32) (ix3 b r q)
    = (preds m c b r - targets m c b q) * (preds m c b r - targets m c b q) := by
  rw [entry_dist]
  exact dist_at _ _ b r q
theorem entered_prev (p t : ℕ → EReal) (b : Fin 256) (i : Fin 513) : diags (entryContents preI m c) (ix3 0 b i) = sdiag tenth p t 0 i.val := by
  rw [entry_diags, id]
  rw [stack_at, Matrix.cons_val_zero]
  exact start_prev p t b i
theorem entered_last (p t : ℕ → EReal) (b : Fin 256) (i : Fin 513) : diags (entryContents preI m c) (ix3 1 b i) = sdiag tenth p t (0 + 1) i.val := by
  rw [entry_diags, id]
  exact (stack_at _ _ 1 b i).trans ((fill_at b i).trans (start_last p t i.val))

/-- What the loop is entered with. -/
theorem carried_entry : Carried (fun b => ext (preds m c b)) (fun b => ext (targets m c b)) 0 (entryContents preI m c) where
  steps := entered_steps m c
  rows := entered_rows m c
  temp := entered_temp m c
  dist b r q := by
    rw [entered_dist, ext_of, ext_of]
  ctr := ctr_entry m c
  prev b := entered_prev m c _ _ b
  last b := entered_last m c _ _ b

/-- The centred rows. -/
theorem centre_at (x : FVec Ideal S256x512 .f32) (b : Fin 256) (i : Fin 512) :
    subf x (broadcastInDim S256x512 ![0, 1] bcast_S256x1_S256x512_0_1 (Host.divf (broadcastInDim S256x1 ![0] bcast_S256_S256x1_0 (Host.reduceAdd x (constant S_ .f32 0x00000000#32) reducesTo_S256x512_S256_d1 h_S_)) (broadcastInDim S256x1 ![] bcast_S_S256x1 (constant S_ .f32 0x44000000#32)))) (ix2 b i)
      = centre (fun j => x (ix2 b j)) i := by
  unfold centre
  pointwise

/-- A sum of products along a row. -/
theorem dot_at (x y : FVec Ideal S256x512 .f32) (b : Fin 256) :
    Host.reduceAdd (mulf x y) (constant S_ .f32 0x00000000#32) reducesTo_S256x512_S256_d1 h_S_ (ix1 b) = (∑ i, x (ix2 b i) * y (ix2 b i) : EReal) := by
  pointwise

/-- The same of two arrays of centred rows. -/
theorem centred (x y : FVec Ideal S256x512 .f32) {X Y : Fin 256 → Fin 512 → EReal} (hx : ∀ b i, x (ix2 b i) = X b i) (hy : ∀ b i, y (ix2 b i) = Y b i) (b : Fin 256) :
    Host.reduceAdd (mulf
        (subf x (broadcastInDim S256x512 ![0, 1] bcast_S256x1_S256x512_0_1 (Host.divf (broadcastInDim S256x1 ![0] bcast_S256_S256x1_0 (Host.reduceAdd x (constant S_ .f32 0x00000000#32) reducesTo_S256x512_S256_d1 h_S_)) (broadcastInDim S256x1 ![] bcast_S_S256x1 (constant S_ .f32 0x44000000#32)))))
        (subf y (broadcastInDim S256x512 ![0, 1] bcast_S256x1_S256x512_0_1 (Host.divf (broadcastInDim S256x1 ![0] bcast_S256_S256x1_0 (Host.reduceAdd y (constant S_ .f32 0x00000000#32) reducesTo_S256x512_S256_d1 h_S_)) (broadcastInDim S256x1 ![] bcast_S_S256x1 (constant S_ .f32 0x44000000#32))))))
      (constant S_ .f32 0x00000000#32) reducesTo_S256x512_S256_d1 h_S_ (ix1 b) = (∑ i, centre (X b) i * centre (Y b) i : EReal) := by
  refine (dot_at _ _ b).trans (Finset.sum_congr rfl fun i _ => ?_)
  rw [centre_at, centre_at, show (fun j => x (ix2 b j)) = X b from funext (hx b), show (fun j => y (ix2 b j)) = Y b from funext (hy b)]

/-- The correlation from the three sums. -/
theorem corr_at (D A B : FVec Ideal S256 .f32) (b : Fin 256) :
    Host.divf D (maximumf (mulf (Host.sqrt A) (Host.sqrt B)) (broadcastInDim S256 ![] bcast_S_S256 (constant S_ .f32 0x322BCC77#32))) (ix1 b)
      = Ideal.div (D (ix1 b)) (max (Ideal.sqrt (A (ix1 b)) * Ideal.sqrt (B (ix1 b))) (Ideal.ofBits .f32 0x322BCC77#32)) := by
  pointwise

/-- The sum over the pairs. -/
theorem total_at (x : FVec Ideal S256 .f32) :
    Host.reduceAdd x (constant S_ .f32 0x00000000#32) reducesTo_S256_S_d0 h_S_ ix0 = (∑ b, x (ix1 b) : EReal) := by
  pointwise

theorem corner_at (x : FVec Ideal S2x256x513 .f32) (b : Fin 256) :
    shapeCast S256 (extractStridedSlice S1x256x1 ![1, 0, 512] x slices_S2x256x513_S1x256x1_1_0_512) shapeCasts_S1x256x1_S256 (ix1 b) = x (ix3 1 b 512) := by
  pointwise

theorem blend_at (d q : FVec Ideal S_ .f32) :
    addf (mulf (constant S_ .f32 0x3E99999A#32) d) (mulf (constant S_ .f32 0x3F333333#32) (subf (constant S_ .f32 0x3F800000#32) (Host.divf q (constant S_ .f32 0x43800000#32)))) ix0
      = blend (d ix0) (q ix0) := rfl

/-- The result from the last carried diagonal and the arguments. -/
theorem out_at (V : Conts) (P T : Fin 256 → Fin 512 → EReal)
    (hP : ∀ b i, (V (Proc.devRef .tc main_arg0) : FVec Ideal S256x512 .f32) (ix2 b i) = P b i)
    (hT : ∀ b i, (V (Proc.devRef .tc main_arg1) : FVec Ideal S256x512 .f32) (ix2 b i) = T b i)
    (hR : ∀ b, diags V (ix3 1 b 512) = soft tenth (ext (P b)) (ext (T b)) 512 512) :
    (out_main_v49 V : FVec Ideal S_ .f32) ix0 = loss P T := by
  unfold out_main_v49 loss
  refine (blend_at _ _).trans ?_
  congr 1
  · refine congrArg (fun z => Ideal.div z _) ((total_at _).trans ?_)
    exact Finset.sum_congr rfl fun b _ => (corner_at _ b).trans (hR b)
  · refine (total_at _).trans (Finset.sum_congr rfl fun b _ => (corr_at _ _ _ b).trans ?_)
    unfold pears
    refine congrArg₂ Ideal.div (centred _ _ hP hT b) (congrArg₂ max (congrArg₂ (· * ·) (congrArg Ideal.sqrt (centred _ _ hP hP b)) (congrArg Ideal.sqrt (centred _ _ hT hT b))) rfl)

/-- The reference's result. -/
theorem result : (out_main_v49 (STEP^[1023] (entryContents preI m c)) : FVec Ideal S_ .f32) ix0 = loss (preds m c) (targets m c) := by
  refine out_at _ _ _ (fun b i => ?_) (fun b i => ?_) fun b => (carried_entry m c).result b
  · exact congrFun (iter_main_arg0 m c 1023) (ix2 b i)
  · exact congrFun (iter_main_arg1 m c 1023) (ix2 b i)

end Cert.ReferenceIdeal.Value

end
-- ==== Proof.Algebraic.lean ====
module

public import proofs.«01_k».proof.Defs
public import proofs.«01_k».proof.Proof.Ideal.Value
public import proofs.«01_k».proof.Proof.Reference.Value

/-! Both programs leave the same loss. -/

@[expose] public section

set_option maxRecDepth 16384

noncomputable section

namespace Cert

open Idealize.ShloMosaic Idealize.ShloMosaic.TcCoe
open Idealize.SL.Sem

/-- The kernel's run: its result at what the host leaves there, its arguments unchanged. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v0)
          = Pipeline.afterTail₀ KernelIdeal.cfgs (KernelIdeal.Gen.dats m) 0 (KernelIdeal.Gen.V0 m) [KernelIdeal.Gen.hostOps1] c KernelIdeal.main_v0
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)) :=
  (θ_run KernelIdeal.defs _ _).mono (fun _ h c => ⟨(h c).2 KernelIdeal.main_v0 (Pipeline.mem_restRefs_of KernelIdeal.main_v0 (by decide) (by decide)),
    ((h c).2 KernelIdeal.main_arg0 (Pipeline.mem_restRefs_of KernelIdeal.main_arg0 (by decide) (by decide))).trans (KernelIdeal.Gen.W_main_arg0 m (KernelIdeal.Gen.dats m) c),
    ((h c).2 KernelIdeal.main_arg1 (Pipeline.mem_restRefs_of KernelIdeal.main_arg1 (by decide) (by decide))).trans (KernelIdeal.Gen.W_main_arg1 m (KernelIdeal.Gen.dats m) c)⟩)
    (KernelIdeal.Gen.run_main m g)

/-- The only entry of a scalar. -/
theorem scalar_ext (x y : (⟨0, ![]⟩ : Shape).Idx → EReal) (h : x ix0 = y ix0) : x = y :=
  funext fun i => by rw [show i = ix0 from funext fun a => a.elim0]; exact h

theorem algebraic : algebraic_KernelIdeal_ReferenceIdeal (hKernelIdeal := KernelIdeal.Gen.facts) (hReferenceIdeal := ReferenceIdeal.Gen.facts) := by
  intro m g m' g' _ hagree
  refine ⟨fun c => Pipeline.afterTail₀ KernelIdeal.cfgs (KernelIdeal.Gen.dats m) 0 (KernelIdeal.Gen.V0 m) [KernelIdeal.Gen.hostOps1] c KernelIdeal.main_v0, kernel_run m g, ?_⟩
  refine (θ_run ReferenceIdeal.defs _ _).mono (fun r h c => ⟨(h c).1.trans ?_, (h c).2⟩) (ReferenceIdeal.Value.run m' g')
  refine scalar_ext _ _ ((ReferenceIdeal.Value.result m' c).trans (Eq.trans ?_ (KernelIdeal.Gen.result m c).symm))
  refine congrArg₂ loss ?_ ?_
  · funext b i
    exact congrFun (hagree c).1 (ix2 b i)
  · funext b i
    exact congrFun (hagree c).2 (ix2 b i)

end Cert

end
-- ==== Proof.lean ====
module

public import proofs.«01_k».proof.Defs
public import proofs.«01_k».proof.Proof.Bits.Frame
public import proofs.«01_k».proof.Proof.Ideal.Frame
public import proofs.«01_k».proof.Proof.Reference.Frame
public import proofs.«01_k».proof.Proof.Algebraic

@[expose] public section

noncomputable section

namespace Cert.Proof

open Idealize.ShloMosaic Idealize.SL.Sem

/-- The two named constants of the kernel: the filler of the table's outer cells stands for −∞, the
    multiplier for √10. -/
theorem preserves : Cert.preserves_Kernel_KernelIdeal :=
  ⟨IdealRules.named_const.statement _ _ _ _ _ rfl, IdealRules.named_const.statement _ _ _ _ _ rfl⟩

/-- Everything the certificate claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Value.frame m g, preserves, algebraic⟩

end Cert.Proof

end
